-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_gate [hPre_small_gate : Cert.Pre_small_gate.Facts] (m : (ℓ : Loc Cert.KernelIdeal.nD Cert.KernelIdeal.τ Cert.KernelIdeal.sig) → Buf (Elt Ideal) ℓ) : Prop :=
  ∀ c : Dev Cert.KernelIdeal.nD,
    (Cert.Pre_small_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ShiftedIdeal (m : (ℓ : Loc Cert.ShiftedIdeal.nD Cert.ShiftedIdeal.τ Cert.ShiftedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_small_gate [hKernelIdeal : Cert.KernelIdeal.Facts] [hPre_small_gate : Cert.Pre_small_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ShiftedIdeal [hShiftedIdeal : Cert.ShiftedIdeal.Facts] : Prop :=
  ∀ (m : (ℓ : Loc Cert.ShiftedIdeal.nD Cert.ShiftedIdeal.τ Cert.ShiftedIdeal.sig) → Buf (Elt Ideal) ℓ) (g : Dev Cert.ShiftedIdeal.nD → PrngReg), Pre_ShiftedIdeal m →
    θ_run (Cert.ShiftedIdeal.defs (F := Ideal)) (onTc (τ := Cert.ShiftedIdeal.τ) (Cert.ShiftedIdeal.main (F := Ideal))) ⟨m, fun _ => 0, g⟩ (fun r => (∀ c : Dev Cert.ShiftedIdeal.nD,
      r.2.mem ((c.tc : Thread Cert.ShiftedIdeal.nD Cert.ShiftedIdeal.τ).loc Cert.ShiftedIdeal.main_arg0) = m ((c.tc : Thread Cert.ShiftedIdeal.nD Cert.ShiftedIdeal.τ).loc Cert.ShiftedIdeal.main_arg0)
      ∧ r.2.mem ((c.tc : Thread Cert.ShiftedIdeal.nD Cert.ShiftedIdeal.τ).loc Cert.ShiftedIdeal.main_arg1) = m ((c.tc : Thread Cert.ShiftedIdeal.nD Cert.ShiftedIdeal.τ).loc Cert.ShiftedIdeal.main_arg1)
      ∧ r.2.mem ((c.tc : Thread Cert.ShiftedIdeal.nD Cert.ShiftedIdeal.τ).loc Cert.ShiftedIdeal.main_arg2) = m ((c.tc : Thread Cert.ShiftedIdeal.nD Cert.ShiftedIdeal.τ).loc Cert.ShiftedIdeal.main_arg2)
      ∧ r.2.mem ((c.tc : Thread Cert.ShiftedIdeal.nD Cert.ShiftedIdeal.τ).loc Cert.ShiftedIdeal.main_arg3) = m ((c.tc : Thread Cert.ShiftedIdeal.nD Cert.ShiftedIdeal.τ).loc Cert.ShiftedIdeal.main_arg3)
      ∧ r.2.mem ((c.tc : Thread Cert.ShiftedIdeal.nD Cert.ShiftedIdeal.τ).loc Cert.ShiftedIdeal.main_arg4) = m ((c.tc : Thread Cert.ShiftedIdeal.nD Cert.ShiftedIdeal.τ).loc Cert.ShiftedIdeal.main_arg4)
      ∧ r.2.mem ((c.tc : Thread Cert.ShiftedIdeal.nD Cert.ShiftedIdeal.τ).loc Cert.ShiftedIdeal.main_arg5) = m ((c.tc : Thread Cert.ShiftedIdeal.nD Cert.ShiftedIdeal.τ).loc Cert.ShiftedIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelIdeal_ShiftedIdeal [hKernelIdeal : Cert.KernelIdeal.Facts] [hShiftedIdeal : Cert.ShiftedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ShiftedIdeal.nD Cert.ShiftedIdeal.τ Cert.ShiftedIdeal.sig) → Buf (Elt Ideal) ℓ) (g' : Dev Cert.ShiftedIdeal.nD → PrngReg), Pre_KernelIdeal m →
    (∀ c : Dev Cert.KernelIdeal.nD,
      m' ((c.tc : Thread Cert.ShiftedIdeal.nD Cert.ShiftedIdeal.τ).loc Cert.ShiftedIdeal.main_arg0) = m ((c.tc : Thread Cert.KernelIdeal.nD Cert.KernelIdeal.τ).loc Cert.KernelIdeal.main_arg0)
      ∧ m' ((c.tc : Thread Cert.ShiftedIdeal.nD Cert.ShiftedIdeal.τ).loc Cert.ShiftedIdeal.main_arg1) = m ((c.tc : Thread Cert.KernelIdeal.nD Cert.KernelIdeal.τ).loc Cert.KernelIdeal.main_arg1)
      ∧ m' ((c.tc : Thread Cert.ShiftedIdeal.nD Cert.ShiftedIdeal.τ).loc Cert.ShiftedIdeal.main_arg2) = m ((c.tc : Thread Cert.KernelIdeal.nD Cert.KernelIdeal.τ).loc Cert.KernelIdeal.main_arg2)
      ∧ m' ((c.tc : Thread Cert.ShiftedIdeal.nD Cert.ShiftedIdeal.τ).loc Cert.ShiftedIdeal.main_arg3) = m ((c.tc : Thread Cert.KernelIdeal.nD Cert.KernelIdeal.τ).loc Cert.KernelIdeal.main_arg3)
      ∧ m' ((c.tc : Thread Cert.ShiftedIdeal.nD Cert.ShiftedIdeal.τ).loc Cert.ShiftedIdeal.main_arg4) = m ((c.tc : Thread Cert.KernelIdeal.nD Cert.KernelIdeal.τ).loc Cert.KernelIdeal.main_arg4)
      ∧ m' ((c.tc : Thread Cert.ShiftedIdeal.nD Cert.ShiftedIdeal.τ).loc Cert.ShiftedIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ShiftedIdeal.defs (F := Ideal)) (onTc (τ := Cert.ShiftedIdeal.τ) (Cert.ShiftedIdeal.main (F := Ideal))) ⟨m', fun _ => 0, g'⟩ (fun r => ∀ c : Dev Cert.ShiftedIdeal.nD,
          r.2.mem ((c.tc : Thread Cert.ShiftedIdeal.nD Cert.ShiftedIdeal.τ).loc Cert.ShiftedIdeal.main_v69) = v0 c
          ∧ r.2.mem ((c.tc : Thread Cert.ShiftedIdeal.nD Cert.ShiftedIdeal.τ).loc Cert.ShiftedIdeal.main_arg0) = m' ((c.tc : Thread Cert.ShiftedIdeal.nD Cert.ShiftedIdeal.τ).loc Cert.ShiftedIdeal.main_arg0)
          ∧ r.2.mem ((c.tc : Thread Cert.ShiftedIdeal.nD Cert.ShiftedIdeal.τ).loc Cert.ShiftedIdeal.main_arg1) = m' ((c.tc : Thread Cert.ShiftedIdeal.nD Cert.ShiftedIdeal.τ).loc Cert.ShiftedIdeal.main_arg1)
          ∧ r.2.mem ((c.tc : Thread Cert.ShiftedIdeal.nD Cert.ShiftedIdeal.τ).loc Cert.ShiftedIdeal.main_arg2) = m' ((c.tc : Thread Cert.ShiftedIdeal.nD Cert.ShiftedIdeal.τ).loc Cert.ShiftedIdeal.main_arg2)
          ∧ r.2.mem ((c.tc : Thread Cert.ShiftedIdeal.nD Cert.ShiftedIdeal.τ).loc Cert.ShiftedIdeal.main_arg3) = m' ((c.tc : Thread Cert.ShiftedIdeal.nD Cert.ShiftedIdeal.τ).loc Cert.ShiftedIdeal.main_arg3)
          ∧ r.2.mem ((c.tc : Thread Cert.ShiftedIdeal.nD Cert.ShiftedIdeal.τ).loc Cert.ShiftedIdeal.main_arg4) = m' ((c.tc : Thread Cert.ShiftedIdeal.nD Cert.ShiftedIdeal.τ).loc Cert.ShiftedIdeal.main_arg4)
          ∧ r.2.mem ((c.tc : Thread Cert.ShiftedIdeal.nD Cert.ShiftedIdeal.τ).loc Cert.ShiftedIdeal.main_arg5) = m' ((c.tc : Thread Cert.ShiftedIdeal.nD Cert.ShiftedIdeal.τ).loc Cert.ShiftedIdeal.main_arg5))

def holds_KernelIdeal_close_to_reference_pre_small_gate [hKernelIdeal : Cert.KernelIdeal.Facts] [hPre_small_gate : Cert.Pre_small_gate.Facts] [hPost_close_to_reference : Cert.Post_close_to_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_gate m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ (Cert.Post_close_to_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (r.2.mem ((c.tc : Thread Cert.KernelIdeal.nD Cert.KernelIdeal.τ).loc Cert.KernelIdeal.main_v6))) = (fun _ => 1#1))

def Claim : Prop :=
  ∃ (hKernel : Cert.Kernel.Facts) (hKernelIdeal : Cert.KernelIdeal.Facts) (hReferenceIdeal : Cert.ReferenceIdeal.Facts) (hShiftedIdeal : Cert.ShiftedIdeal.Facts) (hPre_small_gate : Cert.Pre_small_gate.Facts) (hPost_close_to_reference : Cert.Post_close_to_reference.Facts),
    quiescent_Kernel (hKernel := hKernel)
    ∧ quiescent_KernelIdeal (hKernelIdeal := hKernelIdeal)
    ∧ quiescent_KernelIdeal_pre_small_gate (hKernelIdeal := hKernelIdeal) (hPre_small_gate := hPre_small_gate)
    ∧ quiescent_ReferenceIdeal (hReferenceIdeal := hReferenceIdeal)
    ∧ quiescent_ShiftedIdeal (hShiftedIdeal := hShiftedIdeal)
    ∧ preserves_Kernel_KernelIdeal
    ∧ algebraic_KernelIdeal_ReferenceIdeal (hKernelIdeal := hKernelIdeal) (hReferenceIdeal := hReferenceIdeal)
    ∧ algebraic_KernelIdeal_ShiftedIdeal (hKernelIdeal := hKernelIdeal) (hShiftedIdeal := hShiftedIdeal)
    ∧ holds_KernelIdeal_close_to_reference_pre_small_gate (hKernelIdeal := hKernelIdeal) (hPre_small_gate := hPre_small_gate) (hPost_close_to_reference := hPost_close_to_reference)
-- ==== Post_close_to_reference.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S256x512 : Shape := ⟨2, ![256, 512]⟩
abbrev S1x512 : Shape := ⟨2, ![1, 512]⟩
abbrev S50000x1 : Shape := ⟨2, ![50000, 1]⟩
abbrev S1x1 : Shape := ⟨2, ![1, 1]⟩
abbrev S256 : Shape := ⟨1, ![256]⟩
abbrev S1x256 : Shape := ⟨2, ![1, 256]⟩
abbrev S50000x256 : Shape := ⟨2, ![50000, 256]⟩
abbrev S_ : Shape := ⟨0, ![]⟩
abbrev S256x1 : Shape := ⟨2, ![256, 1]⟩

class Facts : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S50000_S50000x1_0 : S50000.BroadcastsInDim S50000x1 (![0] : Fin 1 → Fin S50000x1.rank)
  bcast_S256_S1x256_1 : S256.BroadcastsInDim S1x256 (![1] : Fin 1 → Fin S1x256.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000 : S_.BroadcastsInDim S50000 (![] : Fin 0 → Fin S50000.rank)
  bcast_S50000x1_S50000x512_0_1 : S50000x1.BroadcastsInDim S50000x512 (![0, 1] : Fin 2 → Fin S50000x512.rank)
  bcast_S_S256x512 : S_.BroadcastsInDim S256x512 (![] : Fin 0 → Fin S256x512.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  dot_S50000x512_S512x512_S50000x512_1_0_0_1_n_n_wf : DotDims.WF S50000x512 S512x512 S50000x512 [1] [0] [0] [1] [] []
  dot_S50000x512_S512x1_S50000x1_1_0_0_1_n_n_wf : DotDims.WF S50000x512 S512x1 S50000x1 [1] [0] [0] [1] [] []
  gather_S256_S50000x1_S50000_n_0_n_n_0_1_1_wf : GatherDims.WF S256 S50000x1 S50000 [] [0] [] [0] [] 1 ![1]
  scatter_S256_S50000x1_S50000_n_0_0_1_wf : ScatterDims.WF S256 S50000x1 S50000 [] [0] [0] 1
  scatter_S256x512_S50000x1_S50000x512_1_0_0_1_wf : ScatterDims.WF S256x512 S50000x1 S50000x512 [1] [0] [0] 1

variable [Facts]

def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf
def gather_S256_S50000x1_S50000_n_0_n_n_0_1_1 : GatherDims S256 S50000x1 S50000 where
  offsetDims := []
  collapsedSliceDims := [0]
  operandBatchingDims := []
  startIndicesBatchingDims := []
  startIndexMap := [0]
  indexVectorDim := 1
  sliceSizes := ![1]
  wf := gather_S256_S50000x1_S50000_n_0_n_n_0_1_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x512_S50000x1_S50000x512_1_0_0_1 : ScatterDims S256x512 S50000x1 S50000x512 where
  updateWindowDims := [1]
  insertedWindowDims := [0]
  scatterDimsToOperandDims := [0]
  indexVectorDim := 1
  wf := scatter_S256x512_S50000x1_S50000x512_1_0_0_1_wf
def fn_where {F : FTy → Type} [FloatOps F] (arg0 : IVec S50000x256 1) (arg1 : FVec F S50000x1 .f32) (arg2 : FVec F S_ .f32) : FVec F S50000x256 .f32 :=
  let v0 : FVec F S_ .f32 := id arg2
  let v1 : FVec F S50000x256 .f32 := broadcastInDim S50000x256 ![0, 1] bcast_S50000x1_S50000x256_0_1 arg1
  let v2 : FVec F S50000x256 .f32 := broadcastInDim S50000x256 ![] bcast_S_S50000x256 v0
  let v3 : FVec F S50000x256 .f32 := select arg0 v1 v2
  v3

def fn_where_0 {F : FTy → Type} [FloatOps F] (arg0 : IVec S256 1) (arg1 : FVec F S256 .f32) (arg2 : FVec F S_ .f32) : FVec F S256 .f32 :=
  let v0 : FVec F S_ .f32 := id arg2
  let v1 : FVec F S256 .f32 := broadcastInDim S256 ![] bcast_S_S256 v0
  let v2 : FVec F S256 .f32 := select arg0 arg1 v1
  v2

def fn_part3 {F : FTy → Type} [FloatOps F] (main_arg6 : FVec F S256x512 .f32) (main_v50 : FVec F S256x512 .f32) (main_v57 : FVec F S256x1 .f32) : IVec S256x512 1 :=
  let main_v58 : FVec F S256x512 .f32 := broadcastInDim S256x512 ![0, 1] bcast_S256x1_S256x512_0_1 main_v57
  let main_v59 : FVec F S256x512 .f32 := Host.divf main_v50 main_v58
  let main_v60 : FVec F S256x512 .f32 := subf main_arg6 main_v59
  let main_v61 : FVec F S256x512 .f32 := Host.absf main_v60
  let main_v62 : FVec F S256x512 .f32 := Host.absf main_v59
  let main_cst_12 : FVec F S_ .f32 := constant S_ .f32 0x358637BD#32
  let main_v63 : FVec F S256x512 .f32 := broadcastInDim S256x512 ![] bcast_S_S256x512 main_cst_12
  let main_v64 : FVec F S256x512 .f32 := mulf main_v63 main_v62
  let main_v65 : IVec S256x512 1 := cmpf .ole main_v61 main_v64
  main_v65

def fn_part2 {F : FTy → Type} [FloatOps F] (main_arg0 : FVec F S50000x512 .f32) (main_arg1 : IVec S50000 32) (main_arg6 : FVec F S256x512 .f32) (main_v31 : FVec F S50000 .f32) (main_v34 : FVec F S256 .f32) (main_v36 : IVec S50000 1) (main_v38 : IVec S50000 32) : IVec S256x512 1 :=
  let main_v39 : IVec S50000 32 := select main_v36 main_v38 main_arg1
  let main_v40 : IVec S50000x1 32 := broadcastInDim S50000x1 ![0] bcast_S50000_S50000x1_0 main_v39
  let main_v41 : FVec F S50000 .f32 := (fun x i => Host.gather gather_S256_S50000x1_S50000_n_0_n_n_0_1_1 x i) main_v34 main_v40
  let main_cst_7 : FVec F S_ .f32 := constant S_ .f32 0x24E69595#32
  let main_v42 : FVec F S50000 .f32 := broadcastInDim S50000 ![] bcast_S_S50000 main_cst_7
  let main_v43 : FVec F S50000 .f32 := addf main_v41 main_v42
  let main_v44 : FVec F S50000 .f32 := Host.divf main_v31 main_v43
  let main_v45 : FVec F S50000x1 .f32 := broadcastInDim S50000x1 ![0] bcast_S50000_S50000x1_0 main_v44
  let main_v46 : FVec F S50000x512 .f32 := broadcastInDim S50000x512 ![0, 1] bcast_S50000x1_S50000x512_0_1 main_v45
  let main_v47 : FVec F S50000x512 .f32 := mulf main_arg0 main_v46
  let main_cst_8 : FVec F S_ .f32 := constant S_ .f32 0x00000000#32
  let main_v48 : FVec F S256x512 .f32 := broadcastInDim S256x512 ![] bcast_S_S256x512 main_cst_8
  let main_v49 : IVec S50000x1 32 := broadcastInDim S50000x1 ![0] bcast_S50000_S50000x1_0 main_arg1
  let main_v50 : FVec F S256x512 .f32 := (fun x i u => Host.scatterAdd scatter_S256x512_S50000x1_S50000x512_1_0_0_1 x i u) main_v48 main_v49 main_v47
  let main_cst_9 : FVec F S_ .f32 := constant S_ .f32 0x3F800000#32
  let main_v51 : FVec F S50000 .f32 := broadcastInDim S50000 ![] bcast_S_S50000 main_cst_9
  let main_cst_10 : FVec F S_ .f32 := constant S_ .f32 0x00000000#32
  let main_v52 : FVec F S256 .f32 := broadcastInDim S256 ![] bcast_S_S256 main_cst_10
  let main_v53 : IVec S50000x1 32 := broadcastInDim S50000x1 ![0] bcast_S50000_S50000x1_0 main_arg1
  let main_v54 : FVec F S256 .f32 := (fun x i u => Host.scatterAdd scatter_S256_S50000x1_S50000_n_0_0_1 x i u) main_v52 main_v53 main_v51
  let main_cst_11 : FVec F S_ .f32 := constant S_ .f32 0x3F800000#32
  let main_v55 : FVec F S256 .f32 := broadcastInDim S256 ![] bcast_S_S256 main_cst_11
  let main_v56 : FVec F S256 .f32 := maximumf main_v54 main_v55
  let main_v57 : FVec F S256x1 .f32 := broadcastInDim S256x1 ![0] bcast_S256_S256x1_0 main_v56
  fn_part3 (F := F) main_arg6 main_v50 main_v57

def fn_part1 {F : FTy → Type} [FloatOps F] (main_arg0 : FVec F S50000x512 .f32) (main_arg1 : IVec S50000 32) (main_arg6 : FVec F S256x512 .f32) (main_v9 : FVec F S50000 .f32) (main_v18 : FVec F S256 .f32) (main_v19 : FVec F S256 .f32) (main_v20 : FVec F S256 .f32) : IVec S256x512 1 :=
  let main_v21 : IVec S256 1 := cmpf .olt main_v19 main_v20
  let main_cst_2 : FVec F S_ .f32 := constant S_ .f32 0x00000000#32
  let main_v22 : FVec F S256 .f32 := fn_where_0 (F := F) main_v21 main_v18 main_cst_2
  let main_c : IVec S_ 32 := constantI S_ 32 0#32
  let main_v23 : IVec S50000 32 := broadcastInDim S50000 ![] bcast_S_S50000 main_c
  let main_v24 : IVec S50000 1 := cmpi .slt main_arg1 main_v23
  let main_c_3 : IVec S_ 32 := constantI S_ 32 256#32
  let main_v25 : IVec S50000 32 := broadcastInDim S50000 ![] bcast_S_S50000 main_c_3
  let main_v26 : IVec S50000 32 := addi main_arg1 main_v25
  let main_v27 : IVec S50000 32 := select main_v24 main_v26 main_arg1
  let main_v28 : IVec S50000x1 32 := broadcastInDim S50000x1 ![0] bcast_S50000_S50000x1_0 main_v27
  let main_v29 : FVec F S50000 .f32 := (fun x i => Host.gather gather_S256_S50000x1_S50000_n_0_n_n_0_1_1 x i) main_v22 main_v28
  let main_v30 : FVec F S50000 .f32 := subf main_v9 main_v29
  let main_v31 : FVec F S50000 .f32 := Host.exp main_v30
  let main_cst_4 : FVec F S_ .f32 := constant S_ .f32 0x00000000#32
  let main_v32 : FVec F S256 .f32 := broadcastInDim S256 ![] bcast_S_S256 main_cst_4
  let main_v33 : IVec S50000x1 32 := broadcastInDim S50000x1 ![0] bcast_S50000_S50000x1_0 main_arg1
  let main_v34 : FVec F S256 .f32 := (fun x i u => Host.scatterAdd scatter_S256_S50000x1_S50000_n_0_0_1 x i u) main_v32 main_v33 main_v31
  let main_c_5 : IVec S_ 32 := constantI S_ 32 0#32
  let main_v35 : IVec S50000 32 := broadcastInDim S50000 ![] bcast_S_S50000 main_c_5
  let main_v36 : IVec S50000 1 := cmpi .slt main_arg1 main_v35
  let main_c_6 : IVec S_ 32 := constantI S_ 32 256#32
  let main_v37 : IVec S50000 32 := broadcastInDim S50000 ![] bcast_S_S50000 main_c_6
  let main_v38 : IVec S50000 32 := addi main_arg1 main_v37
  fn_part2 (F := F) main_arg0 main_arg1 main_arg6 main_v31 main_v34 main_v36 main_v38

def fn {F : FTy → Type} [FloatOps F] (main_arg0 : FVec F S50000x512 .f32) (main_arg1 : IVec S50000 32) (main_arg2 : FVec F S512x512 .f32) (main_arg3 : FVec F S512 .f32) (main_arg4 : FVec F S512x1 .f32) (main_arg5 : FVec F S1 .f32) (main_arg6 : FVec F S256x512 .f32) : IVec S256x512 1 :=
  let main_v0 : FVec F S50000x512 .f32 := (fun l r => Host.dotGeneral dot_S50000x512_S512x512_S50000x512_1_0_0_1_n_n none l r) main_arg0 main_arg2
  let main_v1 : FVec F S1x512 .f32 := broadcastInDim S1x512 ![1] bcast_S512_S1x512_1 main_arg3
  let main_v2 : FVec F S50000x512 .f32 := broadcastInDim S50000x512 ![0, 1] bcast_S1x512_S50000x512_0_1 main_v1
  let main_v3 : FVec F S50000x512 .f32 := addf main_v0 main_v2
  let main_v4 : FVec F S50000x512 .f32 := Host.tanh main_v3
  let main_v5 : FVec F S50000x1 .f32 := (fun l r => Host.dotGeneral dot_S50000x512_S512x1_S50000x1_1_0_0_1_n_n none l r) main_v4 main_arg4
  let main_v6 : FVec F S1x1 .f32 := broadcastInDim S1x1 ![1] bcast_S1_S1x1_1 main_arg5
  let main_v7 : FVec F S50000x1 .f32 := broadcastInDim S50000x1 ![0, 1] bcast_S1x1_S50000x1_0_1 main_v6
  let main_v8 : FVec F S50000x1 .f32 := addf main_v5 main_v7
  let main_v9 : FVec F S50000 .f32 := shapeCast S50000 main_v8 shapeCasts_S50000x1_S50000
  let main_v10 : IVec S50000x1 32 := broadcastInDim S50000x1 ![0] bcast_S50000_S50000x1_0 main_arg1
  let main_v11 : IVec S256 32 := iotaInDim S256 32 0
  let main_v12 : IVec S1x256 32 := broadcastInDim S1x256 ![1] bcast_S256_S1x256_1 main_v11
  let main_v13 : IVec S50000x256 32 := broadcastInDim S50000x256 ![0, 1] bcast_S50000x1_S50000x256_0_1 main_v10
  let main_v14 : IVec S50000x256 32 := broadcastInDim S50000x256 ![0, 1] bcast_S1x256_S50000x256_0_1 main_v12
  let main_v15 : IVec S50000x256 1 := cmpi .eq main_v13 main_v14
  let main_v16 : FVec F S50000x1 .f32 := broadcastInDim S50000x1 ![0] bcast_S50000_S50000x1_0 main_v9
  let main_cst : FVec F S_ .f32 := constant S_ .f32 0xFF800000#32
  let main_v17 : FVec F S50000x256 .f32 := fn_where (F := F) main_v15 main_v16 main_cst
  let main_cst_0 : FVec F S_ .f32 := constant S_ .f32 0xFF800000#32
  let main_v18 : FVec F S256 .f32 := (fun x v => Host.reduce FloatOps.maximumf x v reducesTo_S50000x256_S256_d0 h_S_) main_v17 main_cst_0
  let main_v19 : FVec F S256 .f32 := Host.absf main_v18
  let main_cst_1 : FVec F S_ .f32 := constant S_ .f32 0x7F800000#32
  let main_v20 : FVec F S256 .f32 := broadcastInDim S256 ![] bcast_S_S256 main_cst_1
  fn_part1 (F := F) main_arg0 main_arg1 main_arg6 main_v9 main_v18 main_v19 main_v20
-- ==== Pre_small_gate.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  reducesTo_S512x1_S_d0_1 : S512x1.ReducesTo [0, 1] S_
  h_S_ : 0 < S_.numel
  shapeCasts_S1_S_ : S1.ShapeCasts S_

variable [Facts]

def fn {F : FTy → Type} [FloatOps F] (main_arg0 : FVec F S50000x512 .f32) (main_arg1 : IVec S50000 32) (main_arg2 : FVec F S512x512 .f32) (main_arg3 : FVec F S512 .f32) (main_arg4 : FVec F S512x1 .f32) (main_arg5 : FVec F S1 .f32) : IVec S_ 1 :=
  let main_v0 : FVec F S512x1 .f32 := Host.absf main_arg4
  let main_cst : FVec F S_ .f32 := constant S_ .f32 0x00000000#32
  let main_v1 : FVec F S_ .f32 := (fun x v => Host.reduceAdd x v reducesTo_S512x1_S_d0_1 h_S_) main_v0 main_cst
  let main_v2 : FVec F S1 .f32 := Host.absf main_arg5
  let main_v3 : FVec F S_ .f32 := shapeCast S_ main_v2 shapeCasts_S1_S_
  let main_v4 : FVec F S_ .f32 := addf main_v1 main_v3
  let main_cst_0 : FVec F S_ .f32 := constant S_ .f32 0x41B80000#32
  let main_v5 : IVec S_ 1 := cmpf .ole main_v4 main_cst_0
  main_v5
-- ==== Kernel.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S25x1x2000 : Shape := ⟨3, ![25, 1, 2000]⟩
abbrev S1x512 : Shape := ⟨2, ![1, 512]⟩
abbrev S1x1 : Shape := ⟨2, ![1, 1]⟩
abbrev S256x512 : Shape := ⟨2, ![256, 512]⟩
abbrev S2000x512 : Shape := ⟨2, ![2000, 512]⟩
abbrev S1x1x2000 : Shape := ⟨3, ![1, 1, 2000]⟩
abbrev S256x1 : Shape := ⟨2, ![256, 1]⟩
abbrev S2000 : Shape := ⟨1, ![2000]⟩
abbrev S2000x1 : Shape := ⟨2, ![2000, 1]⟩
abbrev S1x2000 : Shape := ⟨2, ![1, 2000]⟩
abbrev S256x2000 : Shape := ⟨2, ![256, 2000]⟩
abbrev S256 : Shape := ⟨1, ![256]⟩

abbrev nBuf : Space → Nat
  | .hbm => 13
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S50000, .f32⟩
  | .hbm, ⟨7, _⟩ => ⟨S25x1x2000, .f32⟩
  | .hbm, ⟨8, _⟩ => ⟨S512x512, .bf16⟩
  | .hbm, ⟨9, _⟩ => ⟨S1x512, .f32⟩
  | .hbm, ⟨10, _⟩ => ⟨S1x512, .f32⟩
  | .hbm, ⟨11, _⟩ => ⟨S1x1, .f32⟩
  | .hbm, ⟨12, _⟩ => ⟨S256x512, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S1x512, .f32⟩
  | .local _ .vmem, ⟨4, _⟩ => ⟨S1x512, .f32⟩
  | .local _ .vmem, ⟨5, _⟩ => ⟨S1x1, .f32⟩
  | .local _ .vmem, ⟨6, _⟩ => ⟨S1x1x2000, .f32⟩
  | .local _ .vmem, ⟨7, _⟩ => ⟨S1x1x2000, .f32⟩
  | .local _ .vmem, ⟨8, _⟩ => ⟨S256x512, .f32⟩
  | .local _ .vmem, ⟨9, _⟩ => ⟨S256x1, .f32⟩
  | .local _ .vmem, ⟨10, _⟩ => ⟨S256x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S50000x1 : Shape := ⟨2, ![50000, 1]⟩
abbrev S1x1 : Shape := ⟨2, ![1, 1]⟩
abbrev S_ : Shape := ⟨0, ![]⟩
abbrev S256 : Shape := ⟨1, ![256]⟩
abbrev S256x512 : Shape := ⟨2, ![256, 512]⟩
abbrev S256x1 : Shape := ⟨2, ![256, 1]⟩

abbrev nBuf : Space → Nat
  | .hbm => 53
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S50000x512, .f32⟩
  | .hbm, ⟨7, _⟩ => ⟨S1x512, .f32⟩
  | .hbm, ⟨8, _⟩ => ⟨S50000x512, .f32⟩
  | .hbm, ⟨9, _⟩ => ⟨S50000x512, .f32⟩
  | .hbm, ⟨10, _⟩ => ⟨S50000x512, .f32⟩
  | .hbm, ⟨11, _⟩ => ⟨S50000x1, .f32⟩
  | .hbm, ⟨12, _⟩ => ⟨S1x1, .f32⟩
  | .hbm, ⟨13, _⟩ => ⟨S50000x1, .f32⟩
  | .hbm, ⟨14, _⟩ => ⟨S50000x1, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S256, .f32⟩
  | .hbm, ⟨19, _⟩ => ⟨S50000x1, .i32⟩
  | .hbm, ⟨20, _⟩ => ⟨S256, .f32⟩
  | .hbm, ⟨21, _⟩ => ⟨S_, .i32⟩
  | .hbm, ⟨22, _⟩ => ⟨S50000, .i32⟩
  | .hbm, ⟨23, _⟩ => ⟨S50000, .i1⟩
  | .hbm, ⟨24, _⟩ => ⟨S_, .i32⟩
  | .hbm, ⟨25, _⟩ => ⟨S50000, .i32⟩
  | .hbm, ⟨26, _⟩ => ⟨S50000, .i32⟩
  | .hbm, ⟨27, _⟩ => ⟨S50000, .i32⟩
  | .hbm, ⟨28, _⟩ => ⟨S50000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x512, .f32⟩
  | .hbm, ⟨36, _⟩ => ⟨S50000x512, .f32⟩
  | .hbm, ⟨37, _⟩ => ⟨S_, .f32⟩
  | .hbm, ⟨38, _⟩ => ⟨S256x512, .f32⟩
  | .hbm, ⟨39, _⟩ => ⟨S50000x1, .i32⟩
  | .hbm, ⟨40, _⟩ => ⟨S256x512, .f32⟩
  | .hbm, ⟨41, _⟩ => ⟨S_, .f32⟩
  | .hbm, ⟨42, _⟩ => ⟨S50000, .f32⟩
  | .hbm, ⟨43, _⟩ => ⟨S_, .f32⟩
  | .hbm, ⟨44, _⟩ => ⟨S256, .f32⟩
  | .hbm, ⟨45, _⟩ => ⟨S50000x1, .i32⟩
  | .hbm, ⟨46, _⟩ => ⟨S256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256x1, .f32⟩
  | .hbm, ⟨51, _⟩ => ⟨S256x512, .f32⟩
  | .hbm, ⟨52, _⟩ => ⟨S256x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== ShiftedIdeal.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S50000x1 : Shape := ⟨2, ![50000, 1]⟩
abbrev S1x1 : Shape := ⟨2, ![1, 1]⟩
abbrev S256 : Shape := ⟨1, ![256]⟩
abbrev S1x256 : Shape := ⟨2, ![1, 256]⟩
abbrev S50000x256 : Shape := ⟨2, ![50000, 256]⟩
abbrev S_ : Shape := ⟨0, ![]⟩
abbrev S256x512 : Shape := ⟨2, ![256, 512]⟩
abbrev S256x1 : Shape := ⟨2, ![256, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S50000x512, .f32⟩
  | .hbm, ⟨7, _⟩ => ⟨S1x512, .f32⟩
  | .hbm, ⟨8, _⟩ => ⟨S50000x512, .f32⟩
  | .hbm, ⟨9, _⟩ => ⟨S50000x512, .f32⟩
  | .hbm, ⟨10, _⟩ => ⟨S50000x512, .f32⟩
  | .hbm, ⟨11, _⟩ => ⟨S50000x1, .f32⟩
  | .hbm, ⟨12, _⟩ => ⟨S1x1, .f32⟩
  | .hbm, ⟨13, _⟩ => ⟨S50000x1, .f32⟩
  | .hbm, ⟨14, _⟩ => ⟨S50000x1, .f32⟩
  | .hbm, ⟨15, _⟩ => ⟨S50000, .f32⟩
  | .hbm, ⟨16, _⟩ => ⟨S50000x1, .i32⟩
  | .hbm, ⟨17, _⟩ => ⟨S256, .i32⟩
  | .hbm, ⟨18, _⟩ => ⟨S1x256, .i32⟩
  | .hbm, ⟨19, _⟩ => ⟨S50000x256, .i32⟩
  | .hbm, ⟨20, _⟩ => ⟨S50000x256, .i32⟩
  | .hbm, ⟨21, _⟩ => ⟨S50000x256, .i1⟩
  | .hbm, ⟨22, _⟩ => ⟨S50000x1, .f32⟩
  | .hbm, ⟨23, _⟩ => ⟨S_, .f32⟩
  | .hbm, ⟨24, _⟩ => ⟨S_, .f32⟩
  | .hbm, ⟨25, _⟩ => ⟨S50000x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .i1⟩
  | .hbm, ⟨34, _⟩ => ⟨S_, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S_, .i32⟩
  | .hbm, ⟨39, _⟩ => ⟨S50000, .i32⟩
  | .hbm, ⟨40, _⟩ => ⟨S50000, .i1⟩
  | .hbm, ⟨41, _⟩ => ⟨S_, .i32⟩
  | .hbm, ⟨42, _⟩ => ⟨S50000, .i32⟩
  | .hbm, ⟨43, _⟩ => ⟨S50000, .i32⟩
  | .hbm, ⟨44, _⟩ => ⟨S50000, .i32⟩
  | .hbm, ⟨45, _⟩ => ⟨S50000x1, .i32⟩
  | .hbm, ⟨46, _⟩ => ⟨S50000, .f32⟩
  | .hbm, ⟨47, _⟩ => ⟨S50000, .f32⟩
  | .hbm, ⟨48, _⟩ => ⟨S50000, .f32⟩
  | .hbm, ⟨49, _⟩ => ⟨S_, .f32⟩
  | .hbm, ⟨50, _⟩ => ⟨S256, .f32⟩
  | .hbm, ⟨51, _⟩ => ⟨S50000x1, .i32⟩
  | .hbm, ⟨52, _⟩ => ⟨S256, .f32⟩
  | .hbm, ⟨53, _⟩ => ⟨S_, .i32⟩
  | .hbm, ⟨54, _⟩ => ⟨S50000, .i32⟩
  | .hbm, ⟨55, _⟩ => ⟨S50000, .i1⟩
  | .hbm, ⟨56, _⟩ => ⟨S_, .i32⟩
  | .hbm, ⟨57, _⟩ => ⟨S50000, .i32⟩
  | .hbm, ⟨58, _⟩ => ⟨S50000, .i32⟩
  | .hbm, ⟨59, _⟩ => ⟨S50000, .i32⟩
  | .hbm, ⟨60, _⟩ => ⟨S50000x1, .i32⟩
  | .hbm, ⟨61, _⟩ => ⟨S50000, .f32⟩
  | .hbm, ⟨62, _⟩ => ⟨S_, .i32⟩
  | .hbm, ⟨63, _⟩ => ⟨S50000, .i32⟩
  | .hbm, ⟨64, _⟩ => ⟨S50000, .i1⟩
  | .hbm, ⟨65, _⟩ => ⟨S_, .i32⟩
  | .hbm, ⟨66, _⟩ => ⟨S50000, .i32⟩
  | .hbm, ⟨67, _⟩ => ⟨S50000, .i32⟩
  | .hbm, ⟨68, _⟩ => ⟨S50000, .i32⟩
  | .hbm, ⟨69, _⟩ => ⟨S50000x1, .i32⟩
  | .hbm, ⟨70, _⟩ => ⟨S50000, .f32⟩
  | .hbm, ⟨71, _⟩ => ⟨S50000, .f32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x512, .f32⟩
  | .hbm, ⟨80, _⟩ => ⟨S50000x512, .f32⟩
  | .hbm, ⟨81, _⟩ => ⟨S_, .f32⟩
  | .hbm, ⟨82, _⟩ => ⟨S256x512, .f32⟩
  | .hbm, ⟨83, _⟩ => ⟨S50000x1, .i32⟩
  | .hbm, ⟨84, _⟩ => ⟨S256x512, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S256, .f32⟩
  | .hbm, ⟨89, _⟩ => ⟨S50000x1, .i32⟩
  | .hbm, ⟨90, _⟩ => ⟨S256, .f32⟩
  | .hbm, ⟨91, _⟩ => ⟨S_, .f32⟩
  | .hbm, ⟨92, _⟩ => ⟨S256, .f32⟩
  | .hbm, ⟨93, _⟩ => ⟨S256, .f32⟩
  | .hbm, ⟨94, _⟩ => ⟨S256x1, .f32⟩
  | .hbm, ⟨95, _⟩ => ⟨S256x512, .f32⟩
  | .hbm, ⟨96, _⟩ => ⟨S256x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]
-- ==== Proof.Segment.lean ====
/-
  The host's segment operations read at an index: a sum of the updates whose segment number is the index, and a take at
  a segment number in range.
-/
module

public import Idealize.ShloMosaic.Lib.Pointwise
public import Idealize.ShloMosaic.Lib.Routing.OpsPair
public import Idealize.ShloMosaic.Lib.Routing.OpsSet
public import Idealize.ShloMosaic.PureOps.Ideal.Laws

@[expose] public section

set_option maxRecDepth 16384

noncomputable section

namespace Cert.Pool

open Idealize.ShloMosaic

/-- Update `n` of a segment sum of scalars lands at `g` exactly when its segment number is `g`. -/
theorem lands_vec {N S : ℕ} (d : ScatterDims ⟨1, ![S]⟩ ⟨2, ![N, 1]⟩ ⟨1, ![N]⟩) (hu : d.updateWindowDims = [])
    (hi : d.insertedWindowDims = [0]) (hs : d.scatterDimsToOperandDims = [0]) (hv : d.indexVectorDim = 1)
    (idx : IVec ⟨2, ![N, 1]⟩ 32) (n : Fin N) (g : Fin S) :
    d.resultIdx? (ix1 n) idx = some (ix1 g) ↔ (idx (ix2 n 0)).toInt = ((g : ℕ) : ℤ) := by
  obtain ⟨u, i, s, v, wf⟩ := d
  dsimp only at hu hi hs hv
  subst hu hi hs hv
  rw [Routing.resultIdx?_eq_some]
  have hst : (ScatterDims.mk [] [0] [0] 1 wf : ScatterDims ⟨1, ![S]⟩ ⟨2, ![N, 1]⟩ ⟨1, ![N]⟩).start (ix1 n) idx 0
      = (idx (ix2 n 0)).toInt := by
    unfold ScatterDims.start
    rw [dif_pos (by simp)]
    congr 2
    funext b
    match b with
    | ⟨0, _⟩ => rfl
    | ⟨1, _⟩ => rfl
  have hw : (ScatterDims.mk [] [0] [0] 1 wf : ScatterDims ⟨1, ![S]⟩ ⟨2, ![N, 1]⟩ ⟨1, ![N]⟩).window (ix1 n) 0 = 0 := by
    unfold ScatterDims.window
    rw [dif_neg]
    exact fun h => (of_decide_eq_true (List.mem_filter.1 h).2) (List.mem_singleton.2 rfl)
  constructor
  · intro h
    have h0 := h 0
    rw [hst, hw] at h0
    simpa using h0
  · intro h a
    match a with
    | ⟨0, _⟩ =>
      refine Eq.trans (congrArg₂ (fun (a : ℤ) (b : ℕ) => a + (b : ℤ)) hst hw) ?_
      simpa using h

/-- Update `(n, e)` of a segment sum of rows lands at `(g, f)` exactly when its segment number is `g` and `e` is `f`. -/
theorem lands_mat {N S D : ℕ} (d : ScatterDims ⟨2, ![S, D]⟩ ⟨2, ![N, 1]⟩ ⟨2, ![N, D]⟩) (hu : d.updateWindowDims = [1])
    (hi : d.insertedWindowDims = [0]) (hs : d.scatterDimsToOperandDims = [0]) (hv : d.indexVectorDim = 1)
    (idx : IVec ⟨2, ![N, 1]⟩ 32) (n : Fin N) (e : Fin D) (g : Fin S) (f : Fin D) :
    d.resultIdx? (ix2 n e) idx = some (ix2 g f) ↔ (idx (ix2 n 0)).toInt = ((g : ℕ) : ℤ) ∧ e = f := by
  obtain ⟨u, i, s, v, wf⟩ := d
  dsimp only at hu hi hs hv
  subst hu hi hs hv
  rw [Routing.resultIdx?_eq_some]
  have hst : (ScatterDims.mk [1] [0] [0] 1 wf : ScatterDims ⟨2, ![S, D]⟩ ⟨2, ![N, 1]⟩ ⟨2, ![N, D]⟩).start (ix2 n e) idx 0
      = (idx (ix2 n 0)).toInt := by
    unfold ScatterDims.start
    rw [dif_pos (by simp)]
    congr 2
    funext b
    match b with
    | ⟨0, _⟩ => rfl
    | ⟨1, _⟩ => rfl
  have hst1 : (ScatterDims.mk [1] [0] [0] 1 wf : ScatterDims ⟨2, ![S, D]⟩ ⟨2, ![N, 1]⟩ ⟨2, ![N, D]⟩).start (ix2 n e) idx 1
      = 0 := by
    unfold ScatterDims.start
    rw [dif_neg (by simp)]
  have hw : (ScatterDims.mk [1] [0] [0] 1 wf : ScatterDims ⟨2, ![S, D]⟩ ⟨2, ![N, 1]⟩ ⟨2, ![N, D]⟩).window (ix2 n e) 0
      = 0 := by
    unfold ScatterDims.window
    rw [dif_neg]
    exact fun h => (of_decide_eq_true (List.mem_filter.1 h).2) (List.mem_singleton.2 rfl)
  have hw1 : (ScatterDims.mk [1] [0] [0] 1 wf : ScatterDims ⟨2, ![S, D]⟩ ⟨2, ![N, 1]⟩ ⟨2, ![N, D]⟩).window (ix2 n e) 1
      = e := by
    unfold ScatterDims.window
    rw [dif_pos]
    · rfl
    · exact List.mem_filter.2 ⟨List.mem_finRange _, by simp⟩
  constructor
  · intro h
    have h0 := h 0
    have h1 := h 1
    rw [hst, hw] at h0
    rw [hst1, hw1] at h1
    refine ⟨by simpa using h0, Fin.ext ?_⟩
    have h1' : (0 : ℤ) + ((e : ℕ) : ℤ) = ((f : ℕ) : ℤ) := h1
    omega
  · rintro ⟨h, rfl⟩ a
    match a with
    | ⟨0, _⟩ =>
      refine Eq.trans (congrArg₂ (fun (a : ℤ) (b : ℕ) => a + (b : ℤ)) hst hw) ?_
      simpa using h
    | ⟨1, _⟩ =>
      refine Eq.trans (congrArg₂ (fun (a : ℤ) (b : ℕ) => a + (b : ℤ)) hst1 hw1) ?_
      exact zero_add _

/-- A segment sum of scalars at a segment. -/
theorem sum_vec {N S : ℕ} (d : ScatterDims ⟨1, ![S]⟩ ⟨2, ![N, 1]⟩ ⟨1, ![N]⟩) (hu : d.updateWindowDims = [])
    (hi : d.insertedWindowDims = [0]) (hs : d.scatterDimsToOperandDims = [0]) (hv : d.indexVectorDim = 1)
    (x : Vec Ideal ⟨1, ![S]⟩ .f32) (idx : IVec ⟨2, ![N, 1]⟩ 32) (upd : Vec Ideal ⟨1, ![N]⟩ .f32) (g : Fin S) :
    Host.scatterAdd (F := Ideal) (φ := .f32) d x idx upd (ix1 g)
      = x (ix1 g) + ∑ n : Fin N, if (idx (ix2 n 0)).toInt = ((g : ℕ) : ℤ) then upd (ix1 n) else (0 : EReal) := by
  show x (ix1 g) + ∑ j ∈ Finset.univ.filter (fun j => d.resultIdx? j idx = some (ix1 g)), upd j = _
  rw [Finset.sum_filter, sum_idx1]
  simp only [lands_vec d hu hi hs hv]

/-- A segment sum of rows at a segment and a feature. -/
theorem sum_mat {N S D : ℕ} (d : ScatterDims ⟨2, ![S, D]⟩ ⟨2, ![N, 1]⟩ ⟨2, ![N, D]⟩) (hu : d.updateWindowDims = [1])
    (hi : d.insertedWindowDims = [0]) (hs : d.scatterDimsToOperandDims = [0]) (hv : d.indexVectorDim = 1)
    (x : Vec Ideal ⟨2, ![S, D]⟩ .f32) (idx : IVec ⟨2, ![N, 1]⟩ 32) (upd : Vec Ideal ⟨2, ![N, D]⟩ .f32) (g : Fin S) (f : Fin D) :
    Host.scatterAdd (F := Ideal) (φ := .f32) d x idx upd (ix2 g f)
      = x (ix2 g f) + ∑ n : Fin N, if (idx (ix2 n 0)).toInt = ((g : ℕ) : ℤ) then upd (ix2 n f) else (0 : EReal) := by
  show x (ix2 g f) + ∑ j ∈ Finset.univ.filter (fun j => d.resultIdx? j idx = some (ix2 g f)), upd j = _
  rw [Finset.sum_filter, sum_idx2]
  simp only [lands_mat d hu hi hs hv]
  congr 1
  refine Finset.sum_congr rfl fun n _ => ?_
  by_cases h : (idx (ix2 n 0)).toInt = ((g : ℕ) : ℤ)
  · simp [h]
  · simp [h]

/-- A segment number as a word, read as an integer. -/
theorem word_toInt {S : ℕ} (g : Fin S) (hS : S < 2 ^ 31) : (BitVec.ofNat 32 (g : ℕ)).toInt = ((g : ℕ) : ℤ) := by
  have hg := g.isLt
  rw [BitVec.toInt_ofNat']
  simp only [Int.bmod_def]
  omega

/-- A take from a table at a row whose index is in range. -/
theorem take_vec {N S : ℕ} (d : GatherDims ⟨1, ![S]⟩ ⟨2, ![N, 1]⟩ ⟨1, ![N]⟩) (hc : d.collapsedSliceDims = [0])
    (ho : d.operandBatchingDims = []) (hs : d.startIndexMap = [0]) (hv : d.indexVectorDim = 1)
    (x : Vec Ideal ⟨1, ![S]⟩ .f32) (idx : IVec ⟨2, ![N, 1]⟩ 32) (n : Fin N) (g : Fin S) (hS : S < 2 ^ 31)
    (h : (idx (ix2 n 0)).toInt = ((g : ℕ) : ℤ)) :
    Host.gather d x idx (ix1 n) = x (ix1 g) := by
  refine Routing.gather_take1 d hc ho hs hv x idx n g ?_ hS
  apply BitVec.eq_of_toInt_eq
  rw [word_toInt g hS]
  exact h

end Cert.Pool
-- ==== Proof.Spec.lean ====
/-
  The mathematics of the problem, over the extended reals and with no tile in sight: the score of a row, its membership
  in a segment, and the three sums over the rows of a segment that the pooled mean is made of.
-/
module

public import Idealize.ShloMosaic.Lib.Pointwise
public import Idealize.ShloMosaic.PureOps.Ideal.Laws

@[expose] public section

noncomputable section

namespace Cert.Pool

open Idealize.ShloMosaic

/-- The score of row `n`: a hidden layer with `tanh`, then one output. -/
def score (x : Vec Ideal ⟨2, ![50000, 512]⟩ .f32) (W1 : Vec Ideal ⟨2, ![512, 512]⟩ .f32) (b1 : Vec Ideal ⟨1, ![512]⟩ .f32)
    (W2 : Vec Ideal ⟨2, ![512, 1]⟩ .f32) (b2 : Vec Ideal ⟨1, ![1]⟩ .f32) (n : Fin 50000) : EReal :=
  (∑ k : Fin 512, Ideal.tanh ((∑ j : Fin 512, x (ix2 n j) * W1 (ix2 j k)) + b1 (ix1 k)) * W2 (ix2 k 0)) + b2 (ix1 0)

/-- `1` when row `n` belongs to segment `g`, else `0`. -/
def ind (batch : Vec Ideal ⟨1, ![50000]⟩ .i32) (n : Fin 50000) (g : Fin 256) : EReal :=
  if (batch (ix1 n)).toInt = ((g : ℕ) : ℤ) then 1 else 0

end Cert.Pool
-- ==== Proof.Reference.lean ====
/-
  The parts of the reference as arrays, and what each holds at an index.
-/
module

public import proofs.«01_k».proof.Proof.Segment
public import proofs.«01_k».proof.Proof.Spec
public import proofs.«01_k».proof.Proof.Gen.ShiftedIdeal
public import proofs.«01_k».proof.Proof.Gen.ReferenceIdeal

@[expose] public section

set_option maxRecDepth 16384

noncomputable section

namespace Cert.Pool

open Idealize.ShloMosaic Idealize.ShloMosaic.TcCoe
open Cert.ShiftedIdeal Cert.ShiftedIdeal.Gen

variable (x : FVec Ideal S50000x512 .f32) (batch : IVec S50000 32) (W1 : FVec Ideal S512x512 .f32)
  (b1 : FVec Ideal S512 .f32) (W2 : FVec Ideal S512x1 .f32) (b2 : FVec Ideal S1 .f32)

/-- The scores of all rows. -/
def scores : FVec Ideal S50000 .f32 :=
  shapeCast _ (addf (Host.dotGeneral dot_S50000x512_S512x1_S50000x1_1_0_0_1_n_n none (Host.tanh (addf (Host.dotGeneral dot_S50000x512_S512x512_S50000x512_1_0_0_1_n_n none x W1) (broadcastInDim S50000x512 ![0, 1] bcast_S1x512_S50000x512_0_1 (broadcastInDim S1x512 ![1] bcast_S512_S1x512_1 b1)))) W2) (broadcastInDim S50000x1 ![0, 1] bcast_S1x1_S50000x1_0_1 (broadcastInDim S1x1 ![1] bcast_S1_S1x1_1 b2))) shapeCasts_S50000x1_S50000

/-- The segment numbers as a column. -/
def column : IVec S50000x1 32 := broadcastInDim S50000x1 ![0] bcast_S50000_S50000x1_0 batch

/-- The sum of `u` over the rows of each segment. -/
def segSum (u : FVec Ideal S50000 .f32) : FVec Ideal S256 .f32 :=
  Host.scatterAdd scatter_S256_S50000x1_S50000_n_0_0_1 (broadcastInDim S256 ![] bcast_S_S256 (constant S_ .f32 0x00000000#32)) (column batch) u

/-- The entry of `t` at each row's segment. -/
def pick (t : FVec Ideal S256 .f32) : FVec Ideal S50000 .f32 :=
  Host.gather gather_S256_S50000x1_S50000_n_0_n_n_0_1_1 t (column (select (cmpi .slt batch (broadcastInDim S50000 ![] bcast_S_S50000 (constantI S_ 32 0#32))) (addi batch (broadcastInDim S50000 ![] bcast_S_S50000 (constantI S_ 32 256#32))) batch))

/-- A scalar at every row. -/
def splat (b : BitVec 32) : FVec Ideal S50000 .f32 := broadcastInDim S50000 ![] bcast_S_S50000 (constant S_ .f32 b)

/-- The mean over each segment of the rows weighted by `a`. -/
def pooled (a : FVec Ideal S50000 .f32) : FVec Ideal S256x512 .f32 :=
  Host.divf (Host.scatterAdd scatter_S256x512_S50000x1_S50000x512_1_0_0_1 (broadcastInDim S256x512 ![] bcast_S_S256x512 (constant S_ .f32 0x00000000#32)) (column batch) (mulf x (broadcastInDim S50000x512 ![0, 1] bcast_S50000x1_S50000x512_0_1 (broadcastInDim S50000x1 ![0] bcast_S50000_S50000x1_0 a)))) (broadcastInDim S256x512 ![0, 1] bcast_S256x1_S256x512_0_1 (broadcastInDim S256x1 ![0] bcast_S256_S256x1_0 (maximumf (segSum batch (splat 0x3F800000#32)) (broadcastInDim S256 ![] bcast_S_S256 (constant S_ .f32 0x3F800000#32)))))

/-- Each segment's greatest entry of `s`, before anything is said of segments where it is not finite. -/
def rawMax (s : FVec Ideal S50000 .f32) : FVec Ideal S256 .f32 :=
  Host.reduce FloatOps.maximumf (select (cmpi .eq (broadcastInDim S50000x256 ![0, 1] bcast_S50000x1_S50000x256_0_1 (column batch)) (broadcastInDim S50000x256 ![0, 1] bcast_S1x256_S50000x256_0_1 (broadcastInDim S1x256 ![1] bcast_S256_S1x256_1 (iotaInDim S256 32 0)))) (broadcastInDim S50000x256 ![0, 1] bcast_S50000x1_S50000x256_0_1 (broadcastInDim S50000x1 ![0] bcast_S50000_S50000x1_0 s)) (broadcastInDim S50000x256 ![] bcast_S_S50000x256 (id (constant S_ .f32 0xFF800000#32)))) (constant S_ .f32 0xFF800000#32) reducesTo_S50000x256_S256_d0 h_S_

/-- Each segment's greatest entry of `s`, `0` where that is not finite. -/
def segMax (s : FVec Ideal S50000 .f32) : FVec Ideal S256 .f32 :=
  select (cmpf .olt (Host.absf (rawMax batch s)) (broadcastInDim S256 ![] bcast_S_S256 (constant S_ .f32 0x7F800000#32))) (rawMax batch s) (broadcastInDim S256 ![] bcast_S_S256 (id (constant S_ .f32 0x00000000#32)))

/-- The exponentials of the shifted scores. -/
def shiftedExp (s : FVec Ideal S50000 .f32) : FVec Ideal S50000 .f32 := Host.exp (subf s (pick batch (segMax batch s)))

/-- The scores read at a row. -/
theorem scores_apply (n : Fin 50000) : scores x W1 b1 W2 b2 (ix1 n) = score x W1 b1 W2 b2 n := by
  pointwise [scores, score]

/-- The column of segment numbers read at a row. -/
theorem column_apply (n : Fin 50000) : column batch (ix2 n 0) = batch (ix1 n) := by
  pointwise [column]

/-- A segment sum read at a segment. -/
theorem segSum_apply (u : FVec Ideal S50000 .f32) (g : Fin 256) :
    segSum batch u (ix1 g) = ∑ n, ind batch n g * u (ix1 n) := by
  unfold segSum
  rw [sum_vec _ rfl rfl rfl rfl]
  simp only [column_apply, ind, ite_mul, one_mul, zero_mul]
  pointwise

/-- A row of segment `g` picks the entry at `g`. -/
theorem pick_apply (t : FVec Ideal S256 .f32) (n : Fin 50000) (g : Fin 256)
    (h : (batch (ix1 n)).toInt = ((g : ℕ) : ℤ)) : pick batch t (ix1 n) = t (ix1 g) := by
  unfold pick
  refine take_vec _ rfl rfl rfl rfl t _ n g (by norm_num) ?_
  rw [column_apply]
  pointwise
  have hlt : (batch (ix1 n)).slt 0#32 = false := by simp [BitVec.slt, h]
  simp [IntOp.cmpi, Scalar.select, hlt, h]

/-- A splat read at a row. -/
theorem splat_apply (b : BitVec 32) (n : Fin 50000) : splat b (ix1 n) = Ideal.ofBits .f32 b := by
  pointwise [splat]

/-- The weighted mean read at a segment and a feature. -/
theorem pooled_apply (a : FVec Ideal S50000 .f32) (g : Fin 256) (d : Fin 512) :
    pooled x batch a (ix2 g d)
      = Ideal.div (∑ n, ind batch n g * (x (ix2 n d) * a (ix1 n))) (max (∑ n, ind batch n g) 1) := by
  unfold pooled
  pointwise [segSum_apply, splat_apply]
  rw [sum_mat _ rfl rfl rfl rfl]
  simp only [column_apply, ind, ite_mul, one_mul, zero_mul]
  pointwise

/-- The greatest entry read at a segment. -/
theorem rawMax_apply (s : FVec Ideal S50000 .f32) (g : Fin 256) :
    rawMax batch s (ix1 g) = Finset.univ.sup fun n => if (batch (ix1 n)).toInt = ((g : ℕ) : ℤ) then s (ix1 n) else ⊥ := by
  pointwise [rawMax, column_apply]
  have hb : Ideal.ofBits .f32 0xFF800000#32 = ⊥ := by simp [Ideal.ofBits, Ideal.ieee]
  have hbit : ∀ n : Fin 50000, IntOp.cmpi CmpIPredicate.eq (batch (ix1 n)) (BitVec.ofNat 32 (g : ℕ)) = BitVec.ofBool (decide ((batch (ix1 n)).toInt = ((g : ℕ) : ℤ))) := by
    intro n
    have hw : (batch (ix1 n) == BitVec.ofNat 32 (g : ℕ)) = decide ((batch (ix1 n)).toInt = ((g : ℕ) : ℤ)) := by
      rw [← word_toInt g (by norm_num)]
      by_cases h : batch (ix1 n) = BitVec.ofNat 32 (g : ℕ)
      · simp [h]
      · simp [h, BitVec.toInt_inj]
    exact congrArg BitVec.ofBool hw
  rw [hb]
  refine Finset.fold_congr fun n _ => ?_
  rw [hbit, show id (constant (F := Ideal) S_ FTy.f32 4286578688#32) ix0 = ⊥ from hb]
  by_cases h : (batch (ix1 n)).toInt = ((g : ℕ) : ℤ)
  · simp [h, Scalar.select]
  · simp [h, Scalar.select]

/-- A quotient by a sum, entry by entry. -/
theorem quotient_apply {s : Shape} (a b c : FVec Ideal s .f32) (i : s.Idx) :
    Host.divf a (addf b c) i = Ideal.div (a i) (b i + c i) := rfl

/-- The mean with the weights of a guarded segment softmax, read at a segment and a feature; `G` is the guard at the
    segment's rows. -/
theorem pooled_softmax (e guard : FVec Ideal S50000 .f32) (g : Fin 256) (d : Fin 512) (G : EReal)
    (hG : ∀ n, (batch (ix1 n)).toInt = ((g : ℕ) : ℤ) → guard (ix1 n) = G) :
    pooled x batch (Host.divf e (addf (pick batch (segSum batch e)) guard)) (ix2 g d)
      = Ideal.div (∑ n, ind batch n g * (x (ix2 n d) * Ideal.div (e (ix1 n)) ((∑ n, ind batch n g * e (ix1 n)) + G)))
          (max (∑ n, ind batch n g) 1) := by
  have hn : ∀ n, ind batch n g * (x (ix2 n d) * Host.divf e (addf (pick batch (segSum batch e)) guard) (ix1 n))
      = ind batch n g * (x (ix2 n d) * Ideal.div (e (ix1 n)) ((∑ n, ind batch n g * e (ix1 n)) + G)) := by
    intro n
    by_cases h : (batch (ix1 n)).toInt = ((g : ℕ) : ℤ)
    · rw [quotient_apply, pick_apply batch _ n g h, segSum_apply, hG n h]
    · rw [ind, if_neg h, zero_mul, zero_mul]
  rw [pooled_apply]
  simp only [hn]

end Cert.Pool
-- ==== Proof.Algebra.lean ====
/-
  The algebra over the extended reals: dividing each row's weight by the guarded sum and the mean by the count is
  multiplying the weighted sum once by the reciprocal of their product.
-/
module

public import Idealize.ShloMosaic.PureOps.Ideal.Laws

@[expose] public section

noncomputable section

namespace Cert.Pool

open Idealize.ShloMosaic

variable {ι : Type} [Fintype ι]

/-- An exponential is not negative. -/
theorem exp_nonneg (v : EReal) : 0 ≤ Ideal.exp v := by
  induction v with
  | bot => simp
  | top => simp
  | coe r => rw [Ideal.exp_coe]; exact_mod_cast (Real.exp_pos r).le

/-- A nonnegative real factor comes out of a sum. -/
theorem sum_mul_real (f : ι → EReal) (r : ℝ) (hr : 0 ≤ r) : ∑ n, f n * (r : EReal) = (∑ n, f n) * (r : EReal) := by
  classical
  have h : ∀ s : Finset ι, ∑ n ∈ s, f n * (r : EReal) = (∑ n ∈ s, f n) * (r : EReal) := by
    intro s
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact h _

/-- Division by a nonzero real is multiplication by its inverse. -/
theorem div_real (v : EReal) {q : ℝ} (hq : q ≠ 0) : Ideal.div v (q : EReal) = v * ((q⁻¹ : ℝ) : EReal) := by
  rw [Ideal.div, if_neg (by exact_mod_cast hq), EReal.coe_inv]

/-- Division by `⊤` is zero. -/
theorem div_top (v : EReal) : Ideal.div v ⊤ = 0 := by
  rw [Ideal.div, if_neg (by simp), EReal.inv_top, mul_zero]

/-- A sum of reals, as an extended real. -/
theorem coe_sum (f : ι → ℝ) : ((∑ n, f n : ℝ) : EReal) = ∑ n, (f n : EReal) := by
  classical
  have h : ∀ s : Finset ι, ((∑ n ∈ s, f n : ℝ) : EReal) = ∑ n ∈ s, (f n : EReal) := by
    intro s
    induction s using Finset.induction_on with
    | empty => simp
    | insert a s ha ih => rw [Finset.sum_insert ha, Finset.sum_insert ha, EReal.coe_add, ih]
  exact h _

/-- A number of members, taken as at least one, is a real. -/
theorem count_real (I : ι → EReal) (hI : ∀ n, I n = 0 ∨ I n = 1) : ∃ M : ℝ, 1 ≤ M ∧ max (∑ n, I n) 1 = (M : EReal) := by
  have h : ∀ n, I n = ((if I n = 1 then 1 else 0 : ℝ) : EReal) := by
    intro n
    rcases hI n with h | h <;> simp [h]
  refine ⟨max (∑ n, if I n = 1 then 1 else 0 : ℝ) 1, le_max_right _ _, ?_⟩
  rw [EReal.coe_strictMono.monotone.map_max, coe_sum, ← Finset.sum_congr rfl fun n _ => h n]
  rfl

/-- A sum of members' nonnegative entries is not negative. -/
theorem total_nonneg (I e : ι → EReal) (hI : ∀ n, I n = 0 ∨ I n = 1) (he : ∀ n, 0 ≤ e n) : 0 ≤ ∑ n, I n * e n := by
  refine Finset.sum_nonneg fun n _ => ?_
  rcases hI n with h | h
  · simp [h]
  · simpa [h] using he n

/-- The mean of rows weighted by `e` over a guarded sum: one reciprocal for both divisions. -/
theorem one_reciprocal (I x e : ι → EReal) (hI : ∀ n, I n = 0 ∨ I n = 1) (he : ∀ n, 0 ≤ e n) {G : ℝ} (hG : 0 < G)
    {M : ℝ} (hM : 1 ≤ M) :
    Ideal.div (∑ n, I n * (x n * Ideal.div (e n) ((∑ n, I n * e n) + (G : EReal)))) (M : EReal)
      = (∑ n, I n * e n * x n) * Ideal.div 1 (((∑ n, I n * e n) + (G : EReal)) * (M : EReal)) := by
  have hM0 : (0 : ℝ) < M := by linarith
  have hZ := total_nonneg I e hI he
  generalize (∑ n, I n * e n) = Z at hZ ⊢
  induction Z with
  | bot => simp at hZ
  | top =>
    rw [EReal.top_add_coe, EReal.top_mul_coe_of_pos hM0]
    simp only [div_top, mul_zero, Finset.sum_const_zero]
    rw [div_real _ hM0.ne', zero_mul]
  | coe z =>
    have hz : 0 ≤ z := by exact_mod_cast hZ
    have hq : 0 < z + G := by linarith
    rw [← EReal.coe_add, ← EReal.coe_mul, div_real _ hM0.ne', div_real _ (mul_pos hq hM0).ne', one_mul, mul_inv,
      EReal.coe_mul, ← mul_assoc, ← sum_mul_real _ _ (inv_pos.2 hq).le]
    congr 1
    refine Finset.sum_congr rfl fun n _ => ?_
    rw [div_real _ hq.ne']
    ac_rfl

/-- A shift of the scores by a real scales the exponential. -/
theorem exp_sub_real (v : EReal) (r : ℝ) : Ideal.exp (v - (r : EReal)) = Ideal.exp v * ((Real.exp (-r) : ℝ) : EReal) := by
  induction v with
  | bot => simp
  | top => rw [EReal.top_sub_coe, Ideal.exp_top, EReal.top_mul_coe_of_pos (Real.exp_pos _)]
  | coe s => rw [← EReal.coe_sub, Ideal.exp_coe, Ideal.exp_coe, ← EReal.coe_mul, ← Real.exp_add, sub_eq_add_neg]

/-- Scaling the weights and the guard by one positive real changes nothing. -/
theorem scale_free (I x e : ι → EReal) (hI : ∀ n, I n = 0 ∨ I n = 1) (he : ∀ n, 0 ≤ e n) {G : ℝ} (hG : 0 < G)
    {M : ℝ} (hM : 1 ≤ M) {r : ℝ} (hr : 0 < r) :
    (∑ n, I n * (e n * (r : EReal)) * x n)
        * Ideal.div 1 (((∑ n, I n * (e n * (r : EReal))) + (G : EReal) * (r : EReal)) * (M : EReal))
      = (∑ n, I n * e n * x n) * Ideal.div 1 (((∑ n, I n * e n) + (G : EReal)) * (M : EReal)) := by
  have hM0 : (0 : ℝ) < M := by linarith
  have h1 : ∑ n, I n * (e n * (r : EReal)) * x n = (∑ n, I n * e n * x n) * (r : EReal) := by
    rw [← sum_mul_real _ _ hr.le]
    exact Finset.sum_congr rfl fun n _ => by ac_rfl
  have h2 : ∑ n, I n * (e n * (r : EReal)) = (∑ n, I n * e n) * (r : EReal) := by
    rw [← sum_mul_real _ _ hr.le]
    exact Finset.sum_congr rfl fun n _ => by ac_rfl
  rw [h1, h2]
  have hZ := total_nonneg I e hI he
  generalize (∑ n, I n * e n) = Z at hZ ⊢
  induction Z with
  | bot => simp at hZ
  | top =>
    rw [EReal.top_mul_coe_of_pos hr, ← EReal.coe_mul, EReal.top_add_coe, EReal.top_add_coe,
      EReal.top_mul_coe_of_pos hM0, div_top, mul_zero, mul_zero]
  | coe z =>
    have hz : 0 ≤ z := by exact_mod_cast hZ
    have hq : 0 < z + G := by linarith
    have hq' : 0 < z * r + G * r := by nlinarith
    rw [← EReal.coe_add, ← EReal.coe_mul, ← EReal.coe_mul, ← EReal.coe_mul, ← EReal.coe_add, ← EReal.coe_mul,
      div_real _ (mul_pos hq' hM0).ne', div_real _ (mul_pos hq hM0).ne', one_mul, one_mul, mul_assoc, ← EReal.coe_mul]
    congr 2
    field_simp

end Cert.Pool
-- ==== Proof.CaseValues.lean ====
/-
  What the kernel's body leaves in its three carried buffers at one grid point, in each of its three cases: the first
  point (the buffers are zeroed, then the tile is added), a middle point (the tile is added) and the last point (the
  tile is added, then the output is scaled). Each statement names the payload terms of the body and no memory.
-/
module

public import proofs.«01_k».proof.Proof.Gen.KernelIdeal.Value
public import Idealize.ShloMosaic.Lib.Pointwise

@[expose] public section

set_option maxRecDepth 16384

noncomputable section

namespace Cert.Pool

open Idealize.ShloMosaic Idealize.ShloMosaic.TcCoe
open Cert.KernelIdeal Cert.KernelIdeal.Gen

/-- The tile's contribution added to the output block: one-hot times exponentials, times the rows. -/
abbrev stepO (x0 : Vec Ideal S2000x512 .f32) (x1 : Vec Ideal S512x512 .bf16) (x2 x3 : Vec Ideal S1x512 .f32)
    (x4 : Vec Ideal S1x1 .f32) (x5 : Vec Ideal S1x1x2000 .f32) (o : Vec Ideal S256x512 .f32) : Vec Ideal S256x512 .f32 :=
  k0_pay1 (F := Ideal) (k0_pay8 x0) (k0_pay11 o) (k0_pay12 x0 x1 x2 x3 x4 x5)

/-- The tile's contribution added to the sums of exponentials. -/
abbrev stepZ (x0 : Vec Ideal S2000x512 .f32) (x1 : Vec Ideal S512x512 .bf16) (x2 x3 : Vec Ideal S1x512 .f32)
    (x4 : Vec Ideal S1x1 .f32) (x5 : Vec Ideal S1x1x2000 .f32) (z : Vec Ideal S256x1 .f32) : Vec Ideal S256x1 .f32 :=
  k0_pay2 (F := Ideal) (k0_pay10 x0 x1 x2 x3 x4 x5) z

/-- The tile's contribution added to the counts. -/
abbrev stepC (x5 : Vec Ideal S1x1x2000 .f32) (z : Vec Ideal S256x1 .f32) : Vec Ideal S256x1 .f32 :=
  k0_pay3 (F := Ideal) (k0_pay9 x5) z

/-- The zero offset of a load or a store. -/
theorem offset2 : (![0, 0] : Fin 2 → Nat) = fun _ => 0 := funext fun a => by fin_cases a <;> rfl

/-- The zero offset of a load of a three-axis block. -/
theorem offset3 : (![0, 0, 0] : Fin 3 → Nat) = fun _ => 0 := funext fun a => by fin_cases a <;> rfl

section

variable (c : Dev nD) (i : grid0.Coords)
  (a1 : Memref sig .tc .vmem S2000x512 .f32) (h1 : a1.IsWhole) (a2 : Memref sig .tc .vmem S512x512 .bf16) (h2 : a2.IsWhole)
  (a3 : Memref sig .tc .vmem S1x512 .f32) (h3 : a3.IsWhole) (a4 : Memref sig .tc .vmem S1x512 .f32) (h4 : a4.IsWhole)
  (a5 : Memref sig .tc .vmem S1x1 .f32) (h5 : a5.IsWhole) (a6 : Memref sig .tc .vmem S1x1x2000 .f32) (h6 : a6.IsWhole)
  (a7 : Memref sig .tc .vmem S256x512 .f32) (h7 : a7.IsWhole) (a8 : Memref sig .tc .vmem S256x1 .f32) (h8 : a8.IsWhole)
  (a9 : Memref sig .tc .vmem S256x1 .f32) (h9 : a9.IsWhole)
  (x0 : Vec Ideal S2000x512 .f32) (x1 : Vec Ideal S512x512 .bf16) (x2 x3 : Vec Ideal S1x512 .f32)
  (x4 : Vec Ideal S1x1 .f32) (x5 : Vec Ideal S1x1x2000 .f32)
  (xo : Vec Ideal S256x512 .f32) (xz xc : Vec Ideal S256x1 .f32)

/-- A middle point adds the tile to the output block. -/
theorem out_mid (hc0 : ¬cond0_0 i) (hc1 : ¬cond0_1 i) :
    out0_B_6 (F := Ideal) c i a1 h1 a2 h2 a3 h3 a4 h4 a5 h5 a6 h6 a7 h7 a8 h8 a9 h9 hc0 hc1 x0 x1 x2 x3 x4 x5 xo xz xc
      = stepO x0 x1 x2 x3 x4 x5 xo := by
  unfold out0_B_6
  rw [View.read_writes_eq_canon _ _ _ (cover0_B_6 c i a1 h1 a2 h2 a3 h3 a4 h4 a5 h5 a6 h6 a7 h7 a8 h8 a9 h9 hc0 hc1 x0 x1 x2 x3 x4 x5 xo xz xc)]
  unfold kernelRun0_B
  dsimp only
  sl_unfold_words
  rw [View.canon_unit_zero (S := S256x512) offset2]
  simp only [View.readAt_eq_ld, h1.read_unread, h2.read_unread, h3.read_unread, h4.read_unread, h5.read_unread, h6.read_unread, h7.read_unread,
    View.ld_unit_zero (S := S2000x512) offset2, View.ld_unit_zero (S := S512x512) offset2, View.ld_unit_zero (S := S1x512) offset2,
    View.ld_unit_zero (S := S1x1) offset2, View.ld_unit_zero (S := S1x1x2000) offset3, View.ld_unit_zero (S := S256x512) offset2]

/-- A middle point adds the tile to the sums of exponentials. -/
theorem z_mid (hc0 : ¬cond0_0 i) (hc1 : ¬cond0_1 i) :
    sout0_B_0 (F := Ideal) c i a1 h1 a2 h2 a3 h3 a4 h4 a5 h5 a6 h6 a7 h7 a8 h8 a9 h9 hc0 hc1 x0 x1 x2 x3 x4 x5 xo xz xc
      = stepZ x0 x1 x2 x3 x4 x5 xz := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 xo xz xc)]
  unfold kernelRun0_B
  dsimp only
  sl_unfold_words
  rw [View.canon_unit_zero (S := S256x1) offset2]
  simp only [View.readAt_eq_ld, h1.read_unread, h2.read_unread, h3.read_unread, h4.read_unread, h5.read_unread, h6.read_unread, h8.read_unread,
    View.ld_unit_zero (S := S2000x512) offset2, View.ld_unit_zero (S := S512x512) offset2, View.ld_unit_zero (S := S1x512) offset2,
    View.ld_unit_zero (S := S1x1) offset2, View.ld_unit_zero (S := S1x1x2000) offset3, View.ld_unit_zero (S := S256x1) offset2]

/-- A middle point adds the tile to the counts. -/
theorem c_mid (hc0 : ¬cond0_0 i) (hc1 : ¬cond0_1 i) :
    sout0_B_1 (F := Ideal) c i a1 h1 a2 h2 a3 h3 a4 h4 a5 h5 a6 h6 a7 h7 a8 h8 a9 h9 hc0 hc1 x0 x1 x2 x3 x4 x5 xo xz xc
      = stepC x5 xc := by
  unfold sout0_B_1
  rw [View.read_writes_eq_canon _ _ _ (scover0_B_1 c i a1 h1 a2 h2 a3 h3 a4 h4 a5 h5 a6 h6 a7 h7 a8 h8 a9 h9 hc0 hc1 x0 x1 x2 x3 x4 x5 xo xz xc)]
  unfold kernelRun0_B
  dsimp only
  sl_unfold_words
  rw [View.canon_unit_zero (S := S256x1) offset2]
  simp only [View.readAt_eq_ld, h6.read_unread, h9.read_unread,
    View.ld_unit_zero (S := S1x1x2000) offset3, View.ld_unit_zero (S := S256x1) offset2]

/-- The first point zeroes the output block and adds the tile. -/
theorem out_first (hc0 : cond0_0 i) (hc1 : ¬cond0_1 i) :
    out0_A_6 (F := Ideal) c i a1 h1 a2 h2 a3 h3 a4 h4 a5 h5 a6 h6 a7 h7 a8 h8 a9 h9 hc0 hc1 x0 x1 x2 x3 x4 x5
      = stepO x0 x1 x2 x3 x4 x5 (k0_pay5 (F := Ideal)) := by
  unfold out0_A_6
  rw [View.read_writes_eq_canon _ _ _ (cover0_A_6 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S256x512) offset2, View.readCov_unit_zero (S := S256x512) _ offset2]
  simp only [View.readAt_eq_ld, h1.read_unread, h2.read_unread, h3.read_unread, h4.read_unread, h5.read_unread, h6.read_unread, h7.read_unread,
    View.ld_unit_zero (S := S2000x512) offset2, View.ld_unit_zero (S := S512x512) offset2, View.ld_unit_zero (S := S1x512) offset2,
    View.ld_unit_zero (S := S1x1) offset2, View.ld_unit_zero (S := S1x1x2000) offset3, View.ld_unit_zero (S := S256x512) offset2]

/-- The first point zeroes the sums of exponentials and adds the tile. -/
theorem z_first (hc0 : cond0_0 i) (hc1 : ¬cond0_1 i) :
    sout0_A_0 (F := Ideal) c i a1 h1 a2 h2 a3 h3 a4 h4 a5 h5 a6 h6 a7 h7 a8 h8 a9 h9 hc0 hc1 x0 x1 x2 x3 x4 x5
      = stepZ x0 x1 x2 x3 x4 x5 (k0_pay6 (F := Ideal)) := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S256x1) offset2, View.readCov_unit_zero (S := S256x1) _ offset2]
  simp only [View.readAt_eq_ld, h1.read_unread, h2.read_unread, h3.read_unread, h4.read_unread, h5.read_unread, h6.read_unread, h8.read_unread,
    View.ld_unit_zero (S := S2000x512) offset2, View.ld_unit_zero (S := S512x512) offset2, View.ld_unit_zero (S := S1x512) offset2,
    View.ld_unit_zero (S := S1x1) offset2, View.ld_unit_zero (S := S1x1x2000) offset3, View.ld_unit_zero (S := S256x1) offset2]

/-- The first point zeroes the counts and adds the tile. -/
theorem c_first (hc0 : cond0_0 i) (hc1 : ¬cond0_1 i) :
    sout0_A_1 (F := Ideal) c i a1 h1 a2 h2 a3 h3 a4 h4 a5 h5 a6 h6 a7 h7 a8 h8 a9 h9 hc0 hc1 x0 x1 x2 x3 x4 x5
      = stepC x5 (k0_pay7 (F := Ideal)) := by
  unfold sout0_A_1
  rw [View.read_writes_eq_canon _ _ _ (scover0_A_1 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S256x1) offset2, View.readCov_unit_zero (S := S256x1) _ offset2]
  simp only [View.readAt_eq_ld, h6.read_unread, h9.read_unread,
    View.ld_unit_zero (S := S1x1x2000) offset3, View.ld_unit_zero (S := S256x1) offset2]

/-- The last point adds the tile to all three buffers and scales the output block. -/
theorem out_last (hc0 : ¬cond0_0 i) (hc1 : cond0_1 i) :
    out0_C_6 (F := Ideal) c i a1 h1 a2 h2 a3 h3 a4 h4 a5 h5 a6 h6 a7 h7 a8 h8 a9 h9 hc0 hc1 x0 x1 x2 x3 x4 x5 xo xz xc
      = k0_pay4 (stepZ x0 x1 x2 x3 x4 x5 xz) (stepC x5 xc) (stepO x0 x1 x2 x3 x4 x5 xo) := by
  unfold out0_C_6
  rw [View.read_writes_eq_canon _ _ _ (cover0_C_6 c i a1 h1 a2 h2 a3 h3 a4 h4 a5 h5 a6 h6 a7 h7 a8 h8 a9 h9 hc0 hc1 x0 x1 x2 x3 x4 x5 xo xz xc)]
  unfold kernelRun0_C
  dsimp only
  sl_unfold_words
  rw [View.canon_cons_unit_zero (S := S256x512) offset2, View.readCov_unit_zero (S := S256x512) _ offset2,
    View.readCov_unit_zero (S := S256x1) _ offset2, View.readCov_unit_zero (S := S256x1) _ offset2]
  simp only [View.readAt_eq_ld, h1.read_unread, h2.read_unread, h3.read_unread, h4.read_unread, h5.read_unread, h6.read_unread, h7.read_unread,
    h8.read_unread, h9.read_unread,
    View.ld_unit_zero (S := S2000x512) offset2, View.ld_unit_zero (S := S512x512) offset2, View.ld_unit_zero (S := S1x512) offset2,
    View.ld_unit_zero (S := S1x1) offset2, View.ld_unit_zero (S := S1x1x2000) offset3, View.ld_unit_zero (S := S256x512) offset2,
    View.ld_unit_zero (S := S256x1) offset2]

end

end Cert.Pool
-- ==== Proof.Step.lean ====
/-
  One tile of the kernel read at an index: what it adds to the output block, to the sums of exponentials and to the
  counts, as sums over the 2000 rows of the tile.
-/
module

public import proofs.«01_k».proof.Proof.CaseValues

@[expose] public section

set_option maxRecDepth 16384

noncomputable section

namespace Cert.Pool

open Idealize.ShloMosaic Idealize.ShloMosaic.TcCoe
open Cert.KernelIdeal Cert.KernelIdeal.Gen

variable (x0 : Vec Ideal S2000x512 .f32) (x1 : Vec Ideal S512x512 .bf16) (x2 x3 : Vec Ideal S1x512 .f32)
  (x4 : Vec Ideal S1x1 .f32) (x5 : Vec Ideal S1x1x2000 .f32)

/-- The score of row `r` of a tile. -/
def tileScore (r : Fin 2000) : EReal :=
  (∑ k : Fin 512, Ideal.tanh ((∑ j : Fin 512, x0 (ix2 r j) * x1 (ix2 j k)) + x2 (ix2 0 k)) * x3 (ix2 0 k)) + x4 (ix2 0 0)

/-- `1` where row `r` of the tile carries segment number `g`. -/
def tileInd (r : Fin 2000) (g : Fin 256) : EReal :=
  if x5 (ix3 0 0 r) = (((g : ℕ) : ℝ) : EReal) then 1 else 0

/-- The one-hot entry of segment `g` and row `r`. -/
theorem onehot_apply (g : Fin 256) (r : Fin 2000) : k0_pay9 (F := Ideal) x5 (ix2 g r) = tileInd x5 r g := by
  pointwise [k0_pay9, tileInd]
  have hg : (FloatOps.sitofp (F := Ideal) FTy.f32 (BitVec.ofNat 32 (g : ℕ)) : EReal) = (((g : ℕ) : ℝ) : EReal) := by
    show (((BitVec.ofNat 32 (g : ℕ)).toInt : ℝ) : EReal) = _
    have h : (BitVec.ofNat 32 (g : ℕ)).toInt = ((g : ℕ) : ℤ) := by
      have := g.isLt
      rw [BitVec.toInt_ofNat']
      simp only [Int.bmod_def]
      omega
    rw [h]; norm_cast
  rw [hg]
  by_cases h : x5 (ix3 0 0 r) = (((g : ℕ) : ℝ) : EReal)
  · rw [if_pos h, decide_eq_true h]
    show (((BitVec.setWidth 32 (BitVec.ofBool true)).toInt : ℝ) : EReal) = 1
    rw [show (BitVec.setWidth 32 (BitVec.ofBool true)).toInt = 1 from by decide]; norm_num
  · rw [if_neg h, decide_eq_false h]
    show (((BitVec.setWidth 32 (BitVec.ofBool false)).toInt : ℝ) : EReal) = 0
    rw [show (BitVec.setWidth 32 (BitVec.ofBool false)).toInt = 0 from by decide]; norm_num

/-- The weight of row `r` in segment `g`: the exponential of its score where it is a member, else zero. -/
theorem weight_apply (g : Fin 256) (r : Fin 2000) :
    k0_pay10 (F := Ideal) x0 x1 x2 x3 x4 x5 (ix2 g r) = tileInd x5 r g * Ideal.exp (tileScore x0 x1 x2 x3 x4 r) := by
  unfold k0_pay10
  pointwise [k0_pay8, onehot_apply, tileScore]

/-- A tile adds its weighted rows to the output block. -/
theorem stepO_apply (o : Vec Ideal S256x512 .f32) (g : Fin 256) (d : Fin 512) :
    stepO x0 x1 x2 x3 x4 x5 o (ix2 g d)
      = o (ix2 g d) + ∑ r : Fin 2000, tileInd x5 r g * Ideal.exp (tileScore x0 x1 x2 x3 x4 r) * x0 (ix2 r d) := by
  pointwise [stepO, k0_pay1, k0_pay8, k0_pay11, k0_pay12, weight_apply]

/-- A tile adds its weights to the sums of exponentials. -/
theorem stepZ_apply (z : Vec Ideal S256x1 .f32) (g : Fin 256) :
    stepZ x0 x1 x2 x3 x4 x5 z (ix2 g 0)
      = z (ix2 g 0) + ∑ r : Fin 2000, tileInd x5 r g * Ideal.exp (tileScore x0 x1 x2 x3 x4 r) := by
  pointwise [stepZ, k0_pay2, weight_apply]

/-- A tile adds its members to the counts. -/
theorem stepC_apply (z : Vec Ideal S256x1 .f32) (g : Fin 256) :
    stepC x5 z (ix2 g 0) = z (ix2 g 0) + ∑ r : Fin 2000, tileInd x5 r g := by
  pointwise [stepC, k0_pay3, onehot_apply]

/-- The last point's scaling. -/
theorem final_apply (z c : Vec Ideal S256x1 .f32) (o : Vec Ideal S256x512 .f32) (g : Fin 256) (d : Fin 512) :
    k0_pay4 (F := Ideal) z c o (ix2 g d)
      = o (ix2 g d) * Ideal.div 1 ((z (ix2 g 0) + Ideal.ofBits .f32 0x24E69595#32) * max (c (ix2 g 0)) 1) := by
  pointwise [k0_pay4]

/-- The output block starts at zero. -/
theorem pay5_apply (g : Fin 256) (d : Fin 512) : k0_pay5 (F := Ideal) (ix2 g d) = 0 := by
  pointwise [k0_pay5]

/-- The sums of exponentials start at zero. -/
theorem pay6_apply (g : Fin 256) : k0_pay6 (F := Ideal) (ix2 g 0) = 0 := by
  pointwise [k0_pay6]

/-- The counts start at zero. -/
theorem pay7_apply (g : Fin 256) : k0_pay7 (F := Ideal) (ix2 g 0) = 0 := by
  pointwise [k0_pay7]

end Cert.Pool
-- ==== Proof.Blocks.lean ====
/-
  The blocks that grid point `t` reads, in terms of the arguments: rows `2000 t …` of `x` and of the segment numbers,
  and the whole of each weight. So a tile's score and one-hot row are the whole problem's at row `2000 t + r`.
-/
module

public import proofs.«01_k».proof.Proof.Step
public import proofs.«01_k».proof.Proof.Spec
public import Idealize.ShloMosaic.Lib.Pipeline.ValueKit
public import Idealize.ShloMosaic.Lib.Claim

@[expose] public section

set_option maxRecDepth 16384

noncomputable section

namespace Cert.Pool

open Idealize.ShloMosaic Idealize.ShloMosaic.TcCoe
open Cert.KernelIdeal Cert.KernelIdeal.Gen

variable (m : (ℓ : Loc nD τ sig) → Buf (Elt Ideal) ℓ) (c : Dev nD)

/-- The argument arrays, at their plain types. -/
abbrev argX : Vec Ideal S50000x512 .f32 := m ((c : Thread nD τ).loc main_arg0)
/-- The segment numbers. -/
abbrev argBatch : Vec Ideal S50000 .i32 := m ((c : Thread nD τ).loc main_arg1)
/-- The hidden layer's matrix. -/
abbrev argW1 : Vec Ideal S512x512 .f32 := m ((c : Thread nD τ).loc main_arg2)
/-- The hidden layer's bias. -/
abbrev argB1 : Vec Ideal S512 .f32 := m ((c : Thread nD τ).loc main_arg3)
/-- The output layer's column. -/
abbrev argW2 : Vec Ideal S512x1 .f32 := m ((c : Thread nD τ).loc main_arg4)
/-- The output layer's bias. -/
abbrev argB2 : Vec Ideal S1 .f32 := m ((c : Thread nD τ).loc main_arg5)

/-- Row `2000 t + r`. -/
def row (t : Fin 25) (r : Fin 2000) : Fin 50000 := ⟨(t : ℕ) * 2000 + r, by omega⟩

/-- Where the windows stand at a grid point. -/
theorem windows : ∀ t : Fin cfg0.N,
    win0_0.index t = ![t.val, 0] ∧ win0_1.index t = ![0, 0] ∧ win0_2.index t = ![0, 0]
    ∧ win0_3.index t = ![0, 0] ∧ win0_4.index t = ![0, 0] ∧ win0_5.index t = ![t.val, 0, 0] := by
  decide +kernel

variable (t : Fin cfg0.N)

/-- A grid point as a number below 25. -/
def pt : Fin 25 := ⟨t.val, lt_of_lt_of_eq t.isLt N_0⟩

/-- The block of `x`. -/
theorem blk_x (r : Fin 2000) (j : Fin 512) :
    (iblk m c 0 t : Vec Ideal S2000x512 .f32) (ix2 r j) = argX m c (ix2 (row (pt t) r) j) := by
  have h := windows t
  blk_ext [iblk, V, row, pt, h.1]

/-- The block of the hidden matrix is all of it. -/
theorem blk_W1 (j k : Fin 512) :
    (iblk m c 1 t : Vec Ideal S512x512 .bf16) (ix2 j k) = argW1 m c (ix2 j k) := by
  have h := windows t
  blk_ext! [iblk, h.2.1]

/-- The block of the hidden bias is all of it. -/
theorem blk_b1 (k : Fin 512) :
    (iblk m c 2 t : Vec Ideal S1x512 .f32) (ix2 0 k) = argB1 m c (ix1 k) := by
  have h := windows t
  blk_ext! [iblk, h.2.2.1]

/-- The block of the output column is all of it, laid as a row. -/
theorem blk_W2 (k : Fin 512) :
    (iblk m c 3 t : Vec Ideal S1x512 .f32) (ix2 0 k) = argW2 m c (ix2 k 0) := by
  have h := windows t
  blk_ext! [iblk, h.2.2.2.1]

/-- The block of the output bias. -/
theorem blk_b2 :
    (iblk m c 4 t : Vec Ideal S1x1 .f32) (ix2 0 0) = argB2 m c (ix1 0) := by
  have h := windows t
  blk_ext! [iblk, h.2.2.2.2.1]

/-- The staged segment numbers: the argument's, as floats, cut into tiles. -/
theorem entry_batch : V m c main_v1
    = shapeCast S25x1x2000 (sitofp (F := Ideal) .f32 (argBatch m c)) shapeCasts_S50000_S25x1x2000 := by
  entry_read
  rfl

/-- The block of the segment numbers. -/
theorem blk_batch (r : Fin 2000) :
    (iblk m c 5 t : Vec Ideal S1x1x2000 .f32) (ix3 0 0 r) = (((argBatch m c (ix1 (row (pt t) r))).toInt : ℝ) : EReal) := by
  have h := (windows t).2.2.2.2.2
  have e : (iblk m c 5 t : Vec Ideal S1x1x2000 .f32) (ix3 0 0 r) = (V m c main_v1 : Vec Ideal S25x1x2000 .f32) (ix3 (pt t) 0 r) := by
    blk_ext [iblk, pt, h]
  rw [e, entry_batch]
  pointwise
  rfl

/-- The score of row `n` of the arguments. -/
abbrev sc (n : Fin 50000) : EReal := score (argX m c) (argW1 m c) (argB1 m c) (argW2 m c) (argB2 m c) n

/-- A tile's score is the score of the row it holds. -/
theorem tileScore_blk (r : Fin 2000) :
    tileScore (iblk m c 0 t) (iblk m c 1 t) (iblk m c 2 t) (iblk m c 3 t) (iblk m c 4 t) r = sc m c (row (pt t) r) := by
  unfold tileScore sc score
  simp only [blk_b2, blk_b1, blk_W2, blk_x, blk_W1]

/-- A tile's one-hot entry is the membership of the row it holds. -/
theorem tileInd_blk (r : Fin 2000) (g : Fin 256) :
    tileInd (iblk m c 5 t) r g = ind (argBatch m c) (row (pt t) r) g := by
  unfold tileInd ind
  rw [blk_batch]
  refine if_congr ?_ rfl rfl
  rw [EReal.coe_eq_coe_iff]
  norm_cast

end Cert.Pool
-- ==== Proof.Rows.lean ====
/-
  A sum over the first rows of the 50000, grown by one tile of 2000 rows at a time.
-/
module

public import proofs.«01_k».proof.Proof.Blocks

@[expose] public section

noncomputable section

namespace Cert.Pool

/-- The sum of `F` over the rows of the first `n` tiles. -/
def firstTiles (F : Fin 50000 → EReal) (n : ℕ) : EReal :=
  ∑ i ∈ Finset.range (n * 2000), if h : i < 50000 then F ⟨i, h⟩ else 0

/-- One tile more. -/
theorem firstTiles_succ (F : Fin 50000 → EReal) (t : Fin 25) :
    firstTiles F ((t : ℕ) + 1) = firstTiles F t + ∑ r : Fin 2000, F (row t r) := by
  unfold firstTiles
  rw [Nat.add_mul, one_mul, Finset.sum_range_add, Finset.sum_range (n := 2000)]
  congr 1
  refine Finset.sum_congr rfl fun r _ => ?_
  rw [dif_pos (by omega)]
  rfl

/-- No tile. -/
theorem firstTiles_zero (F : Fin 50000 → EReal) : firstTiles F 0 = 0 := by
  simp [firstTiles]

/-- All 25 tiles: all the rows. -/
theorem firstTiles_all (F : Fin 50000 → EReal) : firstTiles F 25 = ∑ n, F n := by
  unfold firstTiles
  rw [show 25 * 2000 = 50000 from rfl, Finset.sum_range]
  refine Finset.sum_congr rfl fun r _ => ?_
  rw [dif_pos r.isLt]

end Cert.Pool
-- ==== Proof.Fold.lean ====
/-
  The kernel's result array: the 25 tiles' contributions add up to sums over all 50000 rows, and the last point scales.
-/
module

public import proofs.«01_k».proof.Proof.Rows

@[expose] public section

set_option maxRecDepth 16384

noncomputable section

namespace Cert.Pool

open Idealize.ShloMosaic Idealize.ShloMosaic.TcCoe
open Cert.KernelIdeal Cert.KernelIdeal.Gen Cert.KernelIdeal.Value

variable (m : (ℓ : Loc nD τ sig) → Buf (Elt Ideal) ℓ) (c : Dev nD)

/-- The weight of row `n` in segment `g`. -/
abbrev wt (g : Fin 256) (n : Fin 50000) : EReal := ind (argBatch m c) n g * Ideal.exp (sc m c n)

/-- The three buffers hold the sums over the first `n` tiles. -/
def Holds (A : Vec Ideal S256x512 .f32 × Vec Ideal S256x1 .f32 × Vec Ideal S256x1 .f32) (n : ℕ) : Prop :=
  (∀ g d, A.1 (ix2 g d) = firstTiles (fun i => wt m c g i * argX m c (ix2 i d)) n)
    ∧ (∀ g, A.2.1 (ix2 g 0) = firstTiles (wt m c g) n)
    ∧ (∀ g, A.2.2 (ix2 g 0) = firstTiles (fun i => ind (argBatch m c) i g) n)

/-- Adding point `t`'s tile to sums over the tiles before it. -/
theorem holds_step (t : Fin cfg0.N) (A : Vec Ideal S256x512 .f32 × Vec Ideal S256x1 .f32 × Vec Ideal S256x1 .f32)
    (h : Holds m c A t.val) :
    Holds m c (stepO (iblk m c 0 t) (iblk m c 1 t) (iblk m c 2 t) (iblk m c 3 t) (iblk m c 4 t) (iblk m c 5 t) A.1,
      stepZ (iblk m c 0 t) (iblk m c 1 t) (iblk m c 2 t) (iblk m c 3 t) (iblk m c 4 t) (iblk m c 5 t) A.2.1,
      stepC (iblk m c 5 t) A.2.2) (t.val + 1) := by
  obtain ⟨h1, h2, h3⟩ := h
  refine ⟨fun g d => ?_, fun g => ?_, fun g => ?_⟩
  · dsimp only
    rw [stepO_apply, h1, show t.val + 1 = ((pt t : Fin 25) : ℕ) + 1 from rfl, firstTiles_succ]
    simp only [tileScore_blk, tileInd_blk, blk_x]
    rfl
  · dsimp only
    rw [stepZ_apply, h2, show t.val + 1 = ((pt t : Fin 25) : ℕ) + 1 from rfl, firstTiles_succ]
    simp only [tileScore_blk, tileInd_blk]
    rfl
  · dsimp only
    rw [stepC_apply, h3, show t.val + 1 = ((pt t : Fin 25) : ℕ) + 1 from rfl, firstTiles_succ]
    simp only [tileInd_blk]
    rfl

/-- Before the first tile the three buffers hold empty sums. -/
theorem holds_zero : Holds m c (k0_pay5 (F := Ideal), k0_pay6 (F := Ideal), k0_pay7 (F := Ideal)) 0 := by
  refine ⟨fun g d => ?_, fun g => ?_, fun g => ?_⟩
  · rw [firstTiles_zero]; exact pay5_apply g d
  · rw [firstTiles_zero]; exact pay6_apply g
  · rw [firstTiles_zero]; exact pay7_apply g

/-- After point `n`, short of the last, the buffers hold the sums over `n + 1` tiles. -/
theorem holds_acc : ∀ (n : ℕ) (h : 0 + n < cfg0.N), n < 24 →
    Holds m c (Pipeline.accAt (fun n h => stAt0 m c n h junk0) (stAt0 m c) 0 n h) (n + 1)
  | 0, h, _ => by
    rw [Pipeline.accAt_zero]
    have e := stAt0_A m c ⟨0, h⟩ junk0 rfl (by dsimp only; omega)
    rw [out_first, z_first, c_first] at e
    have := holds_step m c ⟨0, h⟩ _ (holds_zero m c)
    exact e ▸ this
  | n + 1, h, hn => by
    rw [Pipeline.accAt_succ]
    have ih := holds_acc n (by omega) (by omega)
    generalize Pipeline.accAt (fun n h => stAt0 m c n h junk0) (stAt0 m c) 0 n (by omega) = A at ih
    have e := stAt0_B m c ⟨0 + (n + 1), h⟩ A (by dsimp only; omega) (by dsimp only; omega)
    rw [out_mid, z_mid, c_mid] at e
    have := holds_step m c ⟨0 + (n + 1), h⟩ A (by simpa using ih)
    simp only [Nat.zero_add] at this e ⊢
    exact e ▸ this

/-- The last point: the buffers hold all the rows' sums, and the output block is scaled. -/
theorem last_point (t : Fin cfg0.N) (ht : t.val = 24)
    (A : Vec Ideal S256x512 .f32 × Vec Ideal S256x1 .f32 × Vec Ideal S256x1 .f32) (hA : Holds m c A t.val)
    (g : Fin 256) (d : Fin 512) :
    (stAt0 m c t.val t.isLt A).1 (ix2 g d)
      = (∑ n, wt m c g n * argX m c (ix2 n d))
        * Ideal.div 1 (((∑ n, wt m c g n) + Ideal.ofBits .f32 0x24E69595#32) * max (∑ n, ind (argBatch m c) n g) 1) := by
  have e := stAt0_C m c t A (by omega) (by omega)
  rw [out_last] at e
  obtain ⟨h1, h2, h3⟩ := holds_step m c t A hA
  rw [ht] at h1 h2 h3
  rw [e]
  dsimp only at h1 h2 h3 ⊢
  rw [final_apply, h1, h2, h3, firstTiles_all, firstTiles_all, firstTiles_all]

/-- The same, of the run of points up to the last. -/
theorem last_acc (n : ℕ) (h : 0 + (n + 1) < cfg0.N) (hn : n = 23) (g : Fin 256) (d : Fin 512) :
    (Pipeline.accAt (fun n h => stAt0 m c n h junk0) (stAt0 m c) 0 (n + 1) h).1 (ix2 g d)
      = (∑ n, wt m c g n * argX m c (ix2 n d))
        * Ideal.div 1 (((∑ n, wt m c g n) + Ideal.ofBits .f32 0x24E69595#32) * max (∑ n, ind (argBatch m c) n g) 1) := by
  rw [Pipeline.accAt_succ]
  have ih := holds_acc m c n (Nat.lt_of_succ_lt h) (by omega)
  generalize Pipeline.accAt (fun n h => stAt0 m c n h junk0) (stAt0 m c) 0 n _ = A at ih
  exact last_point m c ⟨0 + (n + 1), h⟩ (by dsimp only; omega) A (by simpa only [Nat.zero_add] using ih) g d

/-- THE KERNEL'S RESULT at segment `g` and feature `d`: the weighted sum of the segment's rows, times the reciprocal of
    the guarded sum of the weights times the count of the rows (at least one). -/
theorem kernel_value (g : Fin 256) (d : Fin 512) :
    (G6 m c : Vec Ideal S256x512 .f32) (ix2 g d)
      = (∑ n, wt m c g n * argX m c (ix2 n d))
        * Ideal.div 1 (((∑ n, wt m c g n) + Ideal.ofBits .f32 0x24E69595#32) * max (∑ n, ind (argBatch m c) n g) 1) := by
  rw [G6_last]
  exact last_acc m c 23 _ rfl g d

end Cert.Pool
-- ==== Proof.Unshifted.lean ====
/-
  The reference without the shift: its result array, and the equation with the kernel's.
-/
module

public import proofs.«01_k».proof.Proof.Reference
public import proofs.«01_k».proof.Proof.Algebra
public import proofs.«01_k».proof.Proof.Fold
public import proofs.«01_k».proof.Proof.Gen.ReferenceIdeal.Run

@[expose] public section

set_option maxRecDepth 16384

noncomputable section

namespace Cert.Pool

open Idealize.ShloMosaic Idealize.ShloMosaic.TcCoe
open Cert.ShiftedIdeal Cert.ShiftedIdeal.Gen

variable (x : FVec Ideal S50000x512 .f32) (batch : IVec S50000 32) (W1 : FVec Ideal S512x512 .f32)
  (b1 : FVec Ideal S512 .f32) (W2 : FVec Ideal S512x1 .f32) (b2 : FVec Ideal S1 .f32)

/-- The guard of the softmax. -/
def guardValue : ℝ := 15111573 * (2 : ℝ) ^ (-77 : ℤ)

/-- The guard of the softmax is a positive real. -/
theorem guardValue_pos : 0 < guardValue := by
  unfold guardValue
  positivity

/-- The literal is the guard. -/
theorem guard_literal : Ideal.ofBits .f32 0x24E69595#32 = (guardValue : EReal) := by
  simp [guardValue, Ideal.ofBits, Ideal.ieee]

/-- The guard of the softmax is a positive real. -/
theorem guard_real : ∃ G : ℝ, 0 < G ∧ Ideal.ofBits .f32 0x24E69595#32 = (G : EReal) :=
  ⟨guardValue, guardValue_pos, guard_literal⟩

/-- Membership is `0` or `1`. -/
theorem ind_cases (n : Fin 50000) (g : Fin 256) : ind batch n g = 0 ∨ ind batch n g = 1 := by
  unfold ind
  split
  · exact Or.inr rfl
  · exact Or.inl rfl

/-- The mean with the weights of a guarded segment softmax as a weighted sum times one reciprocal: `w` are the
    exponentials, `G` the guard, at the rows of the segment. -/
theorem pooled_mean (e guard : FVec Ideal S50000 .f32) (g : Fin 256) (d : Fin 512) (w : Fin 50000 → EReal) {G : ℝ}
    (hw : ∀ n, 0 ≤ w n) (hG : 0 < G) (he : ∀ n, (batch (ix1 n)).toInt = ((g : ℕ) : ℤ) → e (ix1 n) = w n)
    (hg : ∀ n, (batch (ix1 n)).toInt = ((g : ℕ) : ℤ) → guard (ix1 n) = (G : EReal)) :
    pooled x batch (Host.divf e (addf (pick batch (segSum batch e)) guard)) (ix2 g d)
      = (∑ n, ind batch n g * w n * x (ix2 n d))
        * Ideal.div 1 (((∑ n, ind batch n g * w n) + (G : EReal)) * max (∑ n, ind batch n g) 1) := by
  obtain ⟨M, hM, eM⟩ := count_real (fun n => ind batch n g) fun n => ind_cases batch n g
  rw [pooled_softmax x batch e guard g d (G : EReal) hg, eM]
  have h1 : ∀ n, ind batch n g * e (ix1 n) = ind batch n g * w n := by
    intro n
    by_cases h : (batch (ix1 n)).toInt = ((g : ℕ) : ℤ)
    · rw [he n h]
    · rw [ind, if_neg h, zero_mul, zero_mul]
  have h2 : ∀ (n : Fin 50000) (y q : EReal),
      ind batch n g * (y * Ideal.div (e (ix1 n)) q) = ind batch n g * (y * Ideal.div (w n) q) := by
    intro n y q
    by_cases h : (batch (ix1 n)).toInt = ((g : ℕ) : ℤ)
    · rw [he n h]
    · rw [ind, if_neg h, zero_mul, zero_mul]
  simp only [h1, h2]
  exact one_reciprocal _ (fun n => x (ix2 n d)) w (fun n => ind_cases batch n g) hw hG hM

/-- The result of the reference without the shift. -/
def unshifted : FVec Ideal S256x512 .f32 :=
  pooled x batch (Host.divf (Host.exp (scores x W1 b1 W2 b2))
    (addf (pick batch (segSum batch (Host.exp (scores x W1 b1 W2 b2)))) (splat 0x24E69595#32)))

/-- The common form: the weighted sum of a segment's rows times one reciprocal. -/
def meanAt (g : Fin 256) (d : Fin 512) : EReal :=
  (∑ n, ind batch n g * Ideal.exp (score x W1 b1 W2 b2 n) * x (ix2 n d))
    * Ideal.div 1 (((∑ n, ind batch n g * Ideal.exp (score x W1 b1 W2 b2 n)) + Ideal.ofBits .f32 0x24E69595#32)
        * max (∑ n, ind batch n g) 1)

/-- The reference without the shift holds the common form. -/
theorem unshifted_apply (g : Fin 256) (d : Fin 512) :
    unshifted x batch W1 b1 W2 b2 (ix2 g d) = meanAt x batch W1 b1 W2 b2 g d := by
  obtain ⟨G, hG, eG⟩ := guard_real
  unfold unshifted meanAt
  rw [eG]
  exact pooled_mean x batch _ _ g d _ (fun n => exp_nonneg _) hG
    (fun n _ => congrArg Ideal.exp (scores_apply x W1 b1 W2 b2 n)) fun n _ => (splat_apply _ n).trans eG

/-- The kernel's result array holds the common form of its arguments. -/
theorem kernel_mean (m : (ℓ : Loc Cert.KernelIdeal.nD Cert.KernelIdeal.τ Cert.KernelIdeal.sig) → Buf (Elt Ideal) ℓ)
    (c : Dev Cert.KernelIdeal.nD) (g : Fin 256) (d : Fin 512) :
    (Cert.KernelIdeal.Value.G6 m c : FVec Ideal S256x512 .f32) (ix2 g d)
      = meanAt (argX m c) (argBatch m c) (argW1 m c) (argB1 m c) (argW2 m c) (argB2 m c) g d :=
  kernel_value m c g d

/-- The reference without the shift equals the kernel's result. -/
theorem unshifted_eq (m : (ℓ : Loc Cert.KernelIdeal.nD Cert.KernelIdeal.τ Cert.KernelIdeal.sig) → Buf (Elt Ideal) ℓ)
    (c : Dev Cert.KernelIdeal.nD) :
    unshifted (argX m c) (argBatch m c) (argW1 m c) (argB1 m c) (argW2 m c) (argB2 m c)
      = (Cert.KernelIdeal.Value.G6 m c : FVec Ideal S256x512 .f32) := by
  funext i
  obtain ⟨g, d, rfl⟩ : ∃ (g : Fin 256) (d : Fin 512), i = ix2 g d := ⟨_, _, eq_ix2 i⟩
  rw [unshifted_apply]
  exact (kernel_mean m c _ _).symm

end Cert.Pool
-- ==== Proof.Shifted.lean ====
/-
  The reference with the shift by each segment's maximum: the shift is a real at every segment, so it scales every
  exponential of the segment by one positive real; with the guard scaled along the result is the kernel's.
-/
module

public import proofs.«01_k».proof.Proof.Unshifted
public import proofs.«01_k».proof.Proof.Gen.ShiftedIdeal.Run

@[expose] public section

set_option maxRecDepth 16384

noncomputable section

namespace Cert.Pool

open Idealize.ShloMosaic Idealize.ShloMosaic.TcCoe
open Cert.ShiftedIdeal Cert.ShiftedIdeal.Gen

variable (x : FVec Ideal S50000x512 .f32) (batch : IVec S50000 32) (W1 : FVec Ideal S512x512 .f32)
  (b1 : FVec Ideal S512 .f32) (W2 : FVec Ideal S512x1 .f32) (b2 : FVec Ideal S1 .f32)

/-- A difference's exponential, entry by entry. -/
theorem exp_sub_apply {s : Shape} (a b : FVec Ideal s .f32) (i : s.Idx) :
    Host.exp (subf a b) i = Ideal.exp (a i - b i) := rfl

/-- A product with a negation's exponential, entry by entry. -/
theorem mul_exp_neg_apply {s : Shape} (a b : FVec Ideal s .f32) (i : s.Idx) :
    mulf a (Host.exp (Host.negf b)) i = a i * Ideal.exp (-b i) := rfl

/-- An array with its entries that are not finite replaced by zero. -/
theorem finite_or_zero (a : FVec Ideal S256 .f32) (g : Fin 256) :
    select (cmpf .olt (Host.absf a) (broadcastInDim S256 ![] bcast_S_S256 (constant S_ .f32 0x7F800000#32))) a
        (broadcastInDim S256 ![] bcast_S_S256 (id (constant S_ .f32 0x00000000#32))) (ix1 g)
      = if max (a (ix1 g)) (-a (ix1 g)) < ⊤ then a (ix1 g) else (0 : EReal) := by
  have ht : Ideal.ofBits .f32 0x7F800000#32 = ⊤ := by simp [Ideal.ofBits, Ideal.ieee]
  pointwise
  rw [ht]
  refine if_congr Iff.rfl rfl ?_
  exact Ideal.ofBits_zero_f32

/-- An extended real, replaced by zero where it is not finite, is a real. -/
theorem finite_or_zero_real (v : EReal) :
    ∃ r : ℝ, (if max v (-v) < ⊤ then v else (0 : EReal)) = (r : EReal) ∧ ∀ u : ℝ, v = (u : EReal) → r = u := by
  induction v with
  | bot => exact ⟨0, by simp, fun u hu => absurd hu (by simp)⟩
  | top => exact ⟨0, by simp, fun u hu => absurd hu (by simp)⟩
  | coe v =>
    refine ⟨v, ?_, fun u hu => by exact_mod_cast hu⟩
    rw [if_pos]
    exact max_lt (EReal.coe_lt_top v) (by rw [← EReal.coe_neg]; exact EReal.coe_lt_top _)

/-- The shift of a segment is a real, and it is the greatest score where that is a real. -/
theorem segMax_real (s : FVec Ideal S50000 .f32) (g : Fin 256) :
    ∃ r : ℝ, segMax batch s (ix1 g) = (r : EReal) ∧ ∀ v : ℝ, rawMax batch s (ix1 g) = (v : EReal) → r = v := by
  unfold segMax
  rw [finite_or_zero]
  exact finite_or_zero_real _

/-- A row's shifted exponential is its exponential scaled by its segment's factor. -/
theorem shiftedExp_apply (n : Fin 50000) (g : Fin 256) (h : (batch (ix1 n)).toInt = ((g : ℕ) : ℤ)) {r : ℝ}
    (hr : segMax batch (scores x W1 b1 W2 b2) (ix1 g) = (r : EReal)) :
    shiftedExp batch (scores x W1 b1 W2 b2) (ix1 n)
      = Ideal.exp (score x W1 b1 W2 b2 n) * ((Real.exp (-r) : ℝ) : EReal) := by
  unfold shiftedExp
  rw [exp_sub_apply, pick_apply batch _ n g h, hr, scores_apply, exp_sub_real]

/-- The result of the reference with the shift and a guard. -/
def shiftedBy (guard : FVec Ideal S50000 .f32) : FVec Ideal S256x512 .f32 :=
  pooled x batch (Host.divf (shiftedExp batch (scores x W1 b1 W2 b2))
    (addf (pick batch (segSum batch (shiftedExp batch (scores x W1 b1 W2 b2)))) guard))

/-- The guard shifted along. -/
def shiftedGuard : FVec Ideal S50000 .f32 :=
  mulf (splat 0x24E69595#32) (Host.exp (Host.negf (pick batch (segMax batch (scores x W1 b1 W2 b2)))))

/-- A shifted reference as a weighted sum times one reciprocal; `G` is the guard at the rows of the segment. -/
theorem shiftedBy_apply (guard : FVec Ideal S50000 .f32) (g : Fin 256) (d : Fin 512) {G r : ℝ} (hG : 0 < G)
    (hr : segMax batch (scores x W1 b1 W2 b2) (ix1 g) = (r : EReal))
    (hg : ∀ n, (batch (ix1 n)).toInt = ((g : ℕ) : ℤ) → guard (ix1 n) = (G : EReal)) :
    shiftedBy x batch W1 b1 W2 b2 guard (ix2 g d)
      = (∑ n, ind batch n g * (Ideal.exp (score x W1 b1 W2 b2 n) * ((Real.exp (-r) : ℝ) : EReal)) * x (ix2 n d))
        * Ideal.div 1 (((∑ n, ind batch n g * (Ideal.exp (score x W1 b1 W2 b2 n) * ((Real.exp (-r) : ℝ) : EReal)))
            + (G : EReal)) * max (∑ n, ind batch n g) 1) :=
  pooled_mean x batch _ guard g d _
    (fun n => mul_nonneg (exp_nonneg _) (by exact_mod_cast (Real.exp_pos _).le)) hG
    (fun n h => shiftedExp_apply x batch W1 b1 W2 b2 n g h hr) hg

/-- The reference with the shift and the shifted guard holds the common form. -/
theorem shifted_apply (g : Fin 256) (d : Fin 512) :
    shiftedBy x batch W1 b1 W2 b2 (shiftedGuard x batch W1 b1 W2 b2) (ix2 g d) = meanAt x batch W1 b1 W2 b2 g d := by
  obtain ⟨G, hG, eG⟩ := guard_real
  obtain ⟨r, hr, -⟩ := segMax_real batch (scores x W1 b1 W2 b2) g
  obtain ⟨M, hM, eM⟩ := count_real (fun n => ind batch n g) fun n => ind_cases batch n g
  rw [shiftedBy_apply x batch W1 b1 W2 b2 _ g d (G := G * Real.exp (-r)) (mul_pos hG (Real.exp_pos _)) hr, meanAt, eG,
    eM, EReal.coe_mul]
  · exact scale_free _ (fun n => x (ix2 n d)) _ (fun n => ind_cases batch n g) (fun n => exp_nonneg _) hG hM
      (Real.exp_pos _)
  · intro n h
    unfold shiftedGuard
    rw [mul_exp_neg_apply, splat_apply, eG, pick_apply batch _ n g h, hr, ← EReal.coe_neg, Ideal.exp_coe, EReal.coe_mul]

/-- The reference with the shift and the shifted guard equals the kernel's result. -/
theorem shifted_eq (m : (ℓ : Loc Cert.KernelIdeal.nD Cert.KernelIdeal.τ Cert.KernelIdeal.sig) → Buf (Elt Ideal) ℓ)
    (c : Dev Cert.KernelIdeal.nD) :
    shiftedBy (argX m c) (argBatch m c) (argW1 m c) (argB1 m c) (argW2 m c) (argB2 m c)
        (shiftedGuard (argX m c) (argBatch m c) (argW1 m c) (argB1 m c) (argW2 m c) (argB2 m c))
      = (Cert.KernelIdeal.Value.G6 m c : FVec Ideal S256x512 .f32) := by
  funext i
  obtain ⟨g, d, rfl⟩ : ∃ (g : Fin 256) (d : Fin 512), i = ix2 g d := ⟨_, _, eq_ix2 i⟩
  rw [shifted_apply]
  exact (kernel_mean m c _ _).symm

/-- The shifted reference's run leaves that array. -/
theorem shifted_term (m : (ℓ : Loc nD τ sig) → Buf (Elt Ideal) ℓ) (c : Dev nD) :
    Cert.ShiftedIdeal.Value.res_out0 (F := Ideal) m c
      = shiftedBy (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (shiftedGuard (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))) := by
  unfold Cert.ShiftedIdeal.Value.res_out0 Cert.ShiftedIdeal.Value.res_main_v69
  unfold shiftedBy shiftedGuard pooled shiftedExp segMax rawMax pick segSum column splat scores
  rfl

end Cert.Pool
-- ==== Proof.CloseTerm.lean ====
/-
  The closeness predicate as arrays: the kernel's result against the shifted reference with the guard as it stands.
-/
module

public import proofs.«01_k».proof.Proof.Shifted
public import proofs.«01_k».proof.Proof.Gen.Post_close_to_reference
public import proofs.«01_k».proof.Proof.Gen.Pre_small_gate

@[expose] public section

set_option maxRecDepth 16384

noncomputable section

namespace Cert.Pool

open Idealize.ShloMosaic Idealize.ShloMosaic.TcCoe
open Cert.ShiftedIdeal Cert.ShiftedIdeal.Gen

variable (x : FVec Ideal S50000x512 .f32) (batch : IVec S50000 32) (W1 : FVec Ideal S512x512 .f32)
  (b1 : FVec Ideal S512 .f32) (W2 : FVec Ideal S512x1 .f32) (b2 : FVec Ideal S1 .f32)

/-- An array against a reference array: within a millionth of it, entry by entry. -/
def withinMillionth (out ref : FVec Ideal S256x512 .f32) : IVec S256x512 1 :=
  cmpf .ole (Host.absf (subf out ref))
    (mulf (broadcastInDim S256x512 ![] bcast_S_S256x512 (constant S_ .f32 0x358637BD#32)) (Host.absf ref))

/-- The predicate compares with the shifted reference whose guard is the plain one. -/
theorem close_term (out : FVec Ideal S256x512 .f32) :
    Cert.Post_close_to_reference.fn (F := Ideal) x batch W1 b1 W2 b2 out
      = withinMillionth out (shiftedBy x batch W1 b1 W2 b2 (splat 0x24E69595#32)) := by
  unfold withinMillionth shiftedBy pooled shiftedExp segMax rawMax pick segSum column splat scores
  unfold Cert.Post_close_to_reference.fn Cert.Post_close_to_reference.fn_part1 Cert.Post_close_to_reference.fn_part2
    Cert.Post_close_to_reference.fn_part3 Cert.Post_close_to_reference.fn_where Cert.Post_close_to_reference.fn_where_0
  dsimp only
  rfl

/-- Entry by entry. -/
theorem withinMillionth_apply (out ref : FVec Ideal S256x512 .f32) (g : Fin 256) (d : Fin 512)
    (h : max (out (ix2 g d) - ref (ix2 g d)) (-(out (ix2 g d) - ref (ix2 g d)))
      ≤ Ideal.ofBits .f32 0x358637BD#32 * max (ref (ix2 g d)) (-ref (ix2 g d))) :
    withinMillionth out ref (ix2 g d) = 1#1 := by
  unfold withinMillionth
  pointwise
  exact congrArg BitVec.ofBool (decide_eq_true h)

/-- The precondition bounds the weights of the gate's last layer. -/
theorem gate_bound (h : Cert.Pre_small_gate.fn (F := Ideal) x batch W1 b1 W2 b2 = fun _ => 1#1) :
    (∑ k : Fin 512, max (W2 (ix2 k 0)) (-W2 (ix2 k 0))) + max (b2 (ix1 0)) (-b2 (ix1 0)) ≤ ((23 : ℝ) : EReal) := by
  have h0 := congrFun h ix0
  unfold Cert.Pre_small_gate.fn at h0
  dsimp only at h0
  pointwise at h0
  have hb : Ideal.ofBits .f32 0x41B80000#32 = ((23 : ℝ) : EReal) := by
    simp [Ideal.ofBits, Ideal.ieee]
    rw [← EReal.coe_mul]
    norm_num
  rw [hb] at h0
  simp only [Fin.sum_univ_one] at h0
  by_contra hn
  exact absurd ((congrArg BitVec.ofBool (decide_eq_false hn)).symm.trans h0) (by decide)

end Cert.Pool
-- ==== Proof.Near.lean ====
/-
  How far the guard as it stands moves the result: over the reals, a shift by a score that is not far below zero moves
  the guarded quotient by less than a millionth.
-/
module

public import proofs.«01_k».proof.Proof.Algebra

@[expose] public section

noncomputable section

namespace Cert.Pool

open Idealize.ShloMosaic

/-- A hyperbolic tangent is a real of size at most one. -/
theorem tanh_real (v : EReal) : ∃ t : ℝ, Ideal.tanh v = (t : EReal) ∧ |t| ≤ 1 := by
  induction v with
  | bot => exact ⟨-1, by simp, by simp⟩
  | top => exact ⟨1, by simp, by simp⟩
  | coe r => exact ⟨Real.tanh r, rfl, abs_le.2 ⟨(Real.neg_one_lt_tanh r).le, (Real.tanh_lt_one r).le⟩⟩

/-- An extended real whose size is at most a real is a real. -/
theorem real_of_size {v : EReal} {B : ℝ} (h : max v (-v) ≤ (B : EReal)) : ∃ r : ℝ, v = (r : EReal) := by
  induction v with
  | bot => simp at h
  | top => simp at h
  | coe r => exact ⟨r, rfl⟩

/-- The size of a real. -/
theorem size_coe (r : ℝ) : max (r : EReal) (-(r : EReal)) = ((|r| : ℝ) : EReal) := by
  rw [← EReal.coe_neg, ← EReal.coe_strictMono.monotone.map_max]
  rfl

/-- A size is not negative. -/
theorem size_nonneg (v : EReal) : 0 ≤ max v (-v) := by
  induction v with
  | bot => simp
  | top => simp
  | coe r => rw [size_coe]; exact_mod_cast abs_nonneg r

/-- A combination of hyperbolic tangents by coefficients of total size `B` is a real of size at most `B`. -/
theorem score_bound {κ : Type} [Fintype κ] (t w : κ → EReal) (b : EReal) {B : ℝ}
    (ht : ∀ k, ∃ r : ℝ, t k = (r : EReal) ∧ |r| ≤ 1)
    (h : (∑ k, max (w k) (-w k)) + max b (-b) ≤ (B : EReal)) :
    ∃ s : ℝ, (∑ k, t k * w k) + b = (s : EReal) ∧ |s| ≤ B := by
  have hs : (0 : EReal) ≤ ∑ k, max (w k) (-w k) := Finset.sum_nonneg fun k _ => size_nonneg _
  obtain ⟨β, rfl⟩ : ∃ r : ℝ, b = (r : EReal) := real_of_size (le_trans (le_add_of_nonneg_left hs) h)
  have hw : ∀ k, ∃ r : ℝ, w k = (r : EReal) := fun k => real_of_size (le_trans
    ((Finset.single_le_sum (f := fun k => max (w k) (-w k)) (fun k _ => size_nonneg _) (Finset.mem_univ k)).trans
      (le_add_of_nonneg_right (size_nonneg _))) h)
  choose ω hω using hw
  choose τ hτ hτ1 using ht
  simp only [hω, size_coe, ← coe_sum, ← EReal.coe_add] at h
  refine ⟨(∑ k, τ k * ω k) + β, ?_, ?_⟩
  · simp only [hω, hτ, ← EReal.coe_mul, ← coe_sum, ← EReal.coe_add]
  · have h' : (∑ k, |ω k|) + |β| ≤ B := by exact_mod_cast h
    refine (abs_add_le _ _).trans (le_trans (add_le_add_left ?_ _) h')
    refine (Finset.abs_sum_le_sum_abs _ _).trans (Finset.sum_le_sum fun k _ => ?_)
    rw [abs_mul]
    exact mul_le_of_le_one_left (abs_nonneg _) (hτ1 k)

/-- One extended real times two factors that are close: the products are close. -/
theorem products_close (A : EReal) {k f δ : ℝ} (hδ : 0 < δ) (hk : 0 < k) (hf : 0 < f) (h : |k - f| ≤ δ * f) :
    max (A * (k : EReal) - A * (f : EReal)) (-(A * (k : EReal) - A * (f : EReal)))
      ≤ (δ : EReal) * max (A * (f : EReal)) (-(A * (f : EReal))) := by
  induction A with
  | bot => simp [EReal.bot_mul_coe_of_pos hf, EReal.coe_mul_top_of_pos hδ]
  | top => simp [EReal.top_mul_coe_of_pos hf, EReal.coe_mul_top_of_pos hδ]
  | coe a =>
    rw [← EReal.coe_mul, ← EReal.coe_mul, ← EReal.coe_sub, size_coe, size_coe, ← EReal.coe_mul]
    have e : |a * k - a * f| ≤ δ * |a * f| := by
      rw [← mul_sub, abs_mul, abs_mul, abs_of_pos hf]
      nlinarith [abs_nonneg a, mul_le_mul_of_nonneg_left h (abs_nonneg a)]
    exact_mod_cast e

/-- The guarded reciprocal against the shifted one with the guard as it stands: close when the guard times the shift's
    factor is small and the shifted sum is at least one. -/
theorem factors_close {z G M r δ : ℝ} (hG : 0 < G) (hM : 1 ≤ M) (hr : 0 < r) (hz : 1 ≤ z * r) (h1 : G ≤ δ)
    (h2 : G * r ≤ δ) :
    |((z + G) * M)⁻¹ - r * ((z * r + G) * M)⁻¹| ≤ δ * (r * ((z * r + G) * M)⁻¹) := by
  have hz0 : 0 < z := by
    by_contra hn
    nlinarith
  have hM0 : 0 < M := by linarith
  have hq : 0 < z + G := by linarith
  have hq' : 0 < z * r + G := by linarith
  have e : ((z + G) * M)⁻¹ - r * ((z * r + G) * M)⁻¹ = G * (1 - r) / ((z + G) * (z * r + G) * M) := by
    field_simp
    ring
  have e2 : δ * (r * ((z * r + G) * M)⁻¹) = δ * (r * (z + G)) / ((z + G) * (z * r + G) * M) := by
    field_simp
  rw [e, e2, abs_div, abs_of_pos (by positivity : (0 : ℝ) < (z + G) * (z * r + G) * M)]
  refine div_le_div_of_nonneg_right ?_ (by positivity)
  have hδ : 0 < δ := by linarith
  have h3 : δ ≤ δ * (r * (z + G)) := by nlinarith [mul_pos hr hG]
  refine le_trans ?_ h3
  rw [abs_mul, abs_of_pos hG]
  rcases le_total r 1 with hr1 | hr1
  · rw [abs_of_nonneg (by linarith)]
    nlinarith
  · rw [abs_of_nonpos (by linarith)]
    nlinarith

/-- The guard scaled by the exponential of 23 is less than a millionth. -/
theorem guard_small : (15111573 * (2 : ℝ) ^ (-77 : ℤ)) * Real.exp 23 ≤ 8796093 * (2 : ℝ) ^ (-43 : ℤ) := by
  have h : Real.exp 23 = Real.exp 1 ^ 23 := by
    rw [← Real.exp_nat_mul]
    norm_num
  have e1 : Real.exp 1 ≤ 2.719 := by
    refine (Real.exp_bound' (x := 1) (by norm_num) le_rfl (n := 8) (by norm_num)).trans ?_
    norm_num [Finset.sum_range_succ, Nat.factorial]
  have h1 : Real.exp 1 ^ 23 ≤ (2.719 : ℝ) ^ 23 := pow_le_pow_left₀ (Real.exp_pos 1).le e1 23
  rw [h]
  refine (mul_le_mul_of_nonneg_left h1 (by positivity)).trans ?_
  norm_num

end Cert.Pool
-- ==== Proof.Close.lean ====
/-
  The kernel against the reference with its shift and its guard as they stand: within a millionth, when the weights of
  the gate's last layer keep the scores from being far below zero.
-/
module

public import proofs.«01_k».proof.Proof.CloseTerm
public import proofs.«01_k».proof.Proof.Near

@[expose] public section

set_option maxRecDepth 16384

noncomputable section

namespace Cert.Pool

open Idealize.ShloMosaic Idealize.ShloMosaic.TcCoe
open Cert.ShiftedIdeal Cert.ShiftedIdeal.Gen

variable (x : FVec Ideal S50000x512 .f32) (batch : IVec S50000 32) (W1 : FVec Ideal S512x512 .f32)
  (b1 : FVec Ideal S512 .f32) (W2 : FVec Ideal S512x1 .f32) (b2 : FVec Ideal S1 .f32)

/-- A millionth, as the predicate's literal. -/
theorem millionth : Ideal.ofBits .f32 0x358637BD#32 = ((8796093 * (2 : ℝ) ^ (-43 : ℤ) : ℝ) : EReal) := by
  simp [Ideal.ofBits, Ideal.ieee]

/-- The greatest score of a segment with a row is the score of one of its rows. -/
theorem rawMax_attained (s : FVec Ideal S50000 .f32) (σ : Fin 50000 → ℝ) (hs : ∀ n, s (ix1 n) = (σ n : EReal)) (g : Fin 256)
    (n₀ : Fin 50000) (h₀ : (batch (ix1 n₀)).toInt = ((g : ℕ) : ℤ)) :
    ∃ n, (batch (ix1 n)).toInt = ((g : ℕ) : ℤ) ∧ rawMax batch s (ix1 g) = (σ n : EReal) := by
  rw [rawMax_apply]
  obtain ⟨n, -, hn⟩ := Finset.exists_mem_eq_sup (Finset.univ : Finset (Fin 50000)) ⟨n₀, Finset.mem_univ _⟩
    fun n => if (batch (ix1 n)).toInt = ((g : ℕ) : ℤ) then s (ix1 n) else (⊥ : EReal)
  have hle := Finset.le_sup (f := fun n => if (batch (ix1 n)).toInt = ((g : ℕ) : ℤ) then s (ix1 n) else (⊥ : EReal))
    (Finset.mem_univ n₀)
  by_cases h : (batch (ix1 n)).toInt = ((g : ℕ) : ℤ)
  · refine ⟨n, h, hn.trans ?_⟩
    simp only [if_pos h, hs]
  · rw [hn] at hle
    simp only [if_neg h, if_pos h₀, hs] at hle
    exact absurd (le_bot_iff.1 hle) (EReal.coe_ne_bot _)

/-- The sum of a segment's exponentials is a real, at least the exponential of the score of any of its rows. -/
theorem total_real (σ : Fin 50000 → ℝ) (g : Fin 256) (n₁ : Fin 50000) (h₁ : (batch (ix1 n₁)).toInt = ((g : ℕ) : ℤ)) :
    ∃ z : ℝ, ∑ n, ind batch n g * Ideal.exp (σ n : EReal) = (z : EReal) ∧ Real.exp (σ n₁) ≤ z := by
  refine ⟨∑ n, if (batch (ix1 n)).toInt = ((g : ℕ) : ℤ) then Real.exp (σ n) else 0, ?_, ?_⟩
  · rw [coe_sum]
    refine Finset.sum_congr rfl fun n _ => ?_
    by_cases h : (batch (ix1 n)).toInt = ((g : ℕ) : ℤ)
    · rw [ind, if_pos h, if_pos h, one_mul, Ideal.exp_coe]
    · rw [ind, if_neg h, if_neg h, zero_mul, EReal.coe_zero]
  · have h := Finset.single_le_sum
      (f := fun n => if (batch (ix1 n)).toInt = ((g : ℕ) : ℤ) then Real.exp (σ n) else 0)
      (fun n _ => by split <;> positivity) (Finset.mem_univ n₁)
    simpa only [if_pos h₁] using h

/-- The common form against the shifted reference with the plain guard, at a segment and a feature. -/
theorem close_apply (h : (∑ k : Fin 512, max (W2 (ix2 k 0)) (-W2 (ix2 k 0))) + max (b2 (ix1 0)) (-b2 (ix1 0)) ≤ ((23 : ℝ) : EReal))
    (g : Fin 256) (d : Fin 512) (out ref : EReal) (hout : out = meanAt x batch W1 b1 W2 b2 g d)
    (href : ref = shiftedBy x batch W1 b1 W2 b2 (splat 0x24E69595#32) (ix2 g d)) :
    max (out - ref) (-(out - ref)) ≤ Ideal.ofBits .f32 0x358637BD#32 * max ref (-ref) := by
  have hsc : ∀ n, ∃ s : ℝ, score x W1 b1 W2 b2 n = (s : EReal) ∧ |s| ≤ 23 := fun n =>
    score_bound _ _ _ (fun k => tanh_real _) h
  choose σ hσ hσ1 using hsc
  obtain ⟨r, hr, hmax⟩ := segMax_real batch (scores x W1 b1 W2 b2) g
  have hs : ∀ n, scores x W1 b1 W2 b2 (ix1 n) = (σ n : EReal) := fun n => (scores_apply x W1 b1 W2 b2 n).trans (hσ n)
  obtain ⟨M, hM, eM⟩ := count_real (fun n => ind batch n g) fun n => ind_cases batch n g
  have hM0 : 0 < M := by linarith
  have hp := Real.exp_pos (-r)
  rw [shiftedBy_apply x batch W1 b1 W2 b2 _ g d guardValue_pos hr fun n _ => (splat_apply _ n).trans guard_literal] at href
  rw [meanAt, guard_literal] at hout
  rw [eM] at hout href
  simp only [hσ] at hout href
  by_cases hne : ∃ n₀, (batch (ix1 n₀)).toInt = ((g : ℕ) : ℤ)
  · obtain ⟨n₀, h₀⟩ := hne
    obtain ⟨n₁, h₁, hv⟩ := rawMax_attained batch _ σ hs g n₀ h₀
    obtain rfl := hmax _ hv
    obtain ⟨z, hz, hz1⟩ := total_real batch σ g n₁ h₁
    have e1 : ∑ n, ind batch n g * (Ideal.exp (σ n : EReal) * ((Real.exp (-σ n₁) : ℝ) : EReal))
        = (z : EReal) * ((Real.exp (-σ n₁) : ℝ) : EReal) := by
      rw [← hz, ← sum_mul_real _ _ hp.le]
      exact Finset.sum_congr rfl fun n _ => by ac_rfl
    have e2 : ∑ n, ind batch n g * (Ideal.exp (σ n : EReal) * ((Real.exp (-σ n₁) : ℝ) : EReal)) * x (ix2 n d)
        = (∑ n, ind batch n g * Ideal.exp (σ n : EReal) * x (ix2 n d)) * ((Real.exp (-σ n₁) : ℝ) : EReal) := by
      rw [← sum_mul_real _ _ hp.le]
      exact Finset.sum_congr rfl fun n _ => by ac_rfl
    rw [e1, e2] at href
    rw [hz] at hout
    generalize (∑ n, ind batch n g * Ideal.exp (σ n : EReal) * x (ix2 n d)) = A at hout href
    have hG := guardValue_pos
    have hz0 : 0 < z := (Real.exp_pos _).trans_le hz1
    have hzr : 1 ≤ z * Real.exp (-σ n₁) := by
      have := mul_le_mul_of_nonneg_right hz1 hp.le
      rwa [← Real.exp_add, add_neg_cancel, Real.exp_zero] at this
    have hq : 0 < z + guardValue := by linarith
    have hq' : 0 < z * Real.exp (-σ n₁) + guardValue := by linarith
    rw [← EReal.coe_add, ← EReal.coe_mul, div_real _ (mul_pos hq hM0).ne', one_mul] at hout
    rw [← EReal.coe_mul, ← EReal.coe_add, ← EReal.coe_mul, div_real _ (mul_pos hq' hM0).ne', one_mul, mul_assoc,
      ← EReal.coe_mul] at href
    rw [hout, href, millionth]
    have h23 : guardValue * Real.exp 23 ≤ 8796093 * (2 : ℝ) ^ (-43 : ℤ) := guard_small
    have he : Real.exp (-σ n₁) ≤ Real.exp 23 := Real.exp_le_exp.2 (by linarith [(abs_le.1 (hσ1 n₁)).1])
    have he1 : (1 : ℝ) ≤ Real.exp 23 := Real.one_le_exp (by norm_num)
    refine products_close A (by positivity) (inv_pos.2 (mul_pos hq hM0))
      (mul_pos hp (inv_pos.2 (mul_pos hq' hM0))) (factors_close hG hM hp hzr ?_ ?_)
    · exact le_trans (by nlinarith) h23
    · exact le_trans (mul_le_mul_of_nonneg_left he hG.le) h23
  · have h0 : ∀ n, ind batch n g = 0 := fun n => if_neg fun hn => hne ⟨n, hn⟩
    simp only [h0, zero_mul, Finset.sum_const_zero] at hout href
    rw [hout, href]
    simp

/-- The kernel's result is within a millionth of the reference with the shift and the plain guard, entry by entry. -/
theorem close (m : (ℓ : Loc Cert.KernelIdeal.nD Cert.KernelIdeal.τ Cert.KernelIdeal.sig) → Buf (Elt Ideal) ℓ)
    (c : Dev Cert.KernelIdeal.nD)
    (h : Cert.Pre_small_gate.fn (F := Ideal) (argX m c) (argBatch m c) (argW1 m c) (argB1 m c) (argW2 m c) (argB2 m c)
      = fun _ => 1#1) :
    Cert.Post_close_to_reference.fn (F := Ideal) (argX m c) (argBatch m c) (argW1 m c) (argB1 m c) (argW2 m c) (argB2 m c)
        (Cert.KernelIdeal.Value.G6 m c : FVec Ideal S256x512 .f32) = fun _ => 1#1 := by
  rw [close_term]
  funext i
  obtain ⟨g, d, rfl⟩ : ∃ (g : Fin 256) (d : Fin 512), i = ix2 g d := ⟨_, _, eq_ix2 i⟩
  exact withinMillionth_apply _ _ g d
    (close_apply _ _ _ _ _ _ (gate_bound _ _ _ _ _ _ h) g d _ _ (kernel_mean m c g d) rfl)

end Cert.Pool
-- ==== Proof.UnshiftedTerm.lean ====
/-
  What the run of the reference without the shift leaves.
-/
module

public import proofs.«01_k».proof.Proof.Unshifted

@[expose] public section

set_option maxRecDepth 16384

noncomputable section

namespace Cert.Pool

open Idealize.ShloMosaic Idealize.ShloMosaic.TcCoe Idealize.SL.Sem
open Cert.ReferenceIdeal Cert.ReferenceIdeal.Gen

/-- Every run of the reference without the shift ends with that array and its arguments unchanged. -/
theorem unshifted_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38)
        = unshifted (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  unfold unshifted pooled pick segSum column splat scores
  exact Cert.ReferenceIdeal.Value.run (F := Ideal) m ρ

end Cert.Pool
-- ==== Proof.lean ====
/-
  The certificate: the frames, the kernel's result array equal to the two references', and within a millionth of the
  formula with its shift and its guard as they stand.
-/
module

public import proofs.«01_k».proof.Defs
public import proofs.«01_k».proof.Proof.Close
public import proofs.«01_k».proof.Proof.UnshiftedTerm
public import proofs.«01_k».proof.Proof.Gen.Kernel.Frame
public import proofs.«01_k».proof.Proof.Gen.Post_close_to_reference
public import proofs.«01_k».proof.Proof.Gen.Pre_small_gate
public import Idealize.ShloMosaic.Adequacy
public import Idealize.ShloMosaic.Init
public import Idealize.ShloMosaic.Lib.Quiescent

@[expose] public section

noncomputable section

namespace Cert.Proof

open Idealize.ShloMosaic Idealize.SL.Sem

/-- The reference without the shift runs, leaves its arguments unchanged and its counters at zero. -/
theorem frame_unshifted : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference with the shift runs, leaves its arguments unchanged and its counters at zero. -/
theorem frame_shifted : quiescent_ShiftedIdeal := fun m ρ _ =>
  (θ_run Cert.ShiftedIdeal.defs _ _).mono (fun r h => ⟨fun c => (h c).2, sem_eq_zero_of_no_sems (by decide) r.2⟩)
    (Cert.ShiftedIdeal.Value.run (F := Ideal) m ρ)

/-- The kernel's result equals the result of the reference without the shift. -/
theorem equals_unshifted : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.Pool.unshifted_run m' ρ')
  obtain ⟨h0, h1, h2, h3, h4, h5⟩ := hagree c
  rw [(h c).1, h0, h1, h2, h3, h4, h5]
  exact Cert.Pool.unshifted_eq m c

/-- The kernel's result equals the result of the reference with the shift and the shifted guard. -/
theorem equals_shifted : algebraic_KernelIdeal_ShiftedIdeal := by
  intro m ρ m' ρ' _ hagree
  refine ⟨_, Cert.KernelIdeal.Value.run (F := Ideal) m ρ, ?_⟩
  refine (θ_run Cert.ShiftedIdeal.defs _ _).mono (fun _ h c => ⟨?_, (h c).2⟩)
    (Cert.ShiftedIdeal.Value.run (F := Ideal) m' ρ')
  obtain ⟨h0, h1, h2, h3, h4, h5⟩ := hagree c
  refine ((h c).1.trans (Cert.Pool.shifted_term m' c)).trans ?_
  rw [h0, h1, h2, h3, h4, h5]
  exact Cert.Pool.shifted_eq m c

/-- The kernel's result is within a millionth of the formula with the shift and the plain guard. -/
theorem close_to_formula : holds_KernelIdeal_close_to_reference_pre_small_gate := by
  intro m ρ hpre
  refine (θ_run Cert.KernelIdeal.defs _ _).mono (fun _ h c => ?_) (Cert.KernelIdeal.Value.run (F := Ideal) m ρ)
  obtain ⟨hout, h0, h1, h2, h3, h4, h5⟩ := h c
  refine ⟨h0, h1, h2, h3, h4, h5, ?_⟩
  rw [hout]
  exact Cert.Pool.close m c (hpre c)

/-- Everything the certificate claims. -/
theorem claim : Cert.Claim := ⟨Cert.Kernel.Gen.facts, Cert.KernelIdeal.Gen.facts, Cert.ReferenceIdeal.Gen.facts,
  Cert.ShiftedIdeal.Gen.facts, Cert.Pre_small_gate.Gen.facts, Cert.Post_close_to_reference.Gen.facts,
  fun m ρ _ => Cert.Kernel.Gen.frame m ρ, fun m ρ _ => Cert.KernelIdeal.Gen.frame m ρ,
  fun m ρ _ => Cert.KernelIdeal.Gen.frame m ρ, frame_unshifted, frame_shifted,
  (trivial : preserves_Kernel_KernelIdeal), equals_unshifted, equals_shifted, close_to_formula⟩

end Cert.Proof

end
